-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_apart [hPre_finite_and_apart : Cert.Pre_finite_and_apart.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_apart [hPre_finite_and_apart : Cert.Pre_finite_and_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_and_apart [hKernelIdeal : Cert.KernelIdeal.Facts] [hPre_finite_and_apart : Cert.Pre_finite_and_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_and_apart [hReferenceIdeal : Cert.ReferenceIdeal.Facts] [hPre_finite_and_apart : Cert.Pre_finite_and_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_and_apart [hKernelIdeal : Cert.KernelIdeal.Facts] [hReferenceIdeal : Cert.ReferenceIdeal.Facts] [hPre_finite_and_apart : Cert.Pre_finite_and_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_and_apart : Cert.Pre_finite_and_apart.Facts),
    quiescent_Kernel (hKernel := hKernel)
    ∧ quiescent_KernelIdeal (hKernelIdeal := hKernelIdeal)
    ∧ quiescent_KernelIdeal_pre_finite_and_apart (hKernelIdeal := hKernelIdeal) (hPre_finite_and_apart := hPre_finite_and_apart)
    ∧ quiescent_ReferenceIdeal (hReferenceIdeal := hReferenceIdeal)
    ∧ quiescent_ReferenceIdeal_pre_finite_and_apart (hReferenceIdeal := hReferenceIdeal) (hPre_finite_and_apart := hPre_finite_and_apart)
    ∧ preserves_Kernel_KernelIdeal
    ∧ algebraic_KernelIdeal_ReferenceIdeal_pre_finite_and_apart (hKernelIdeal := hKernelIdeal) (hReferenceIdeal := hReferenceIdeal) (hPre_finite_and_apart := hPre_finite_and_apart)
-- ==== Pre_finite_and_apart.lean ====
abbrev S8x4096x3 : Shape := ⟨3, ![8, 4096, 3]⟩
abbrev S8x1024x3 : Shape := ⟨3, ![8, 1024, 3]⟩
abbrev S8x136x4096 : Shape := ⟨3, ![8, 136, 4096]⟩
abbrev S8x264x1024 : Shape := ⟨3, ![8, 264, 1024]⟩
abbrev S256x384 : Shape := ⟨2, ![256, 384]⟩
abbrev S256 : Shape := ⟨1, ![256]⟩
abbrev S256x256 : Shape := ⟨2, ![256, 256]⟩
abbrev S8x8x4096 : Shape := ⟨3, ![8, 8, 4096]⟩
abbrev S8x8x1024 : Shape := ⟨3, ![8, 8, 1024]⟩
abbrev S_ : Shape := ⟨0, ![]⟩
abbrev S8x4096x8 : Shape := ⟨3, ![8, 4096, 8]⟩
abbrev S8x4096x11 : Shape := ⟨3, ![8, 4096, 11]⟩
abbrev S8x1024x8 : Shape := ⟨3, ![8, 1024, 8]⟩
abbrev S8x1024x11 : Shape := ⟨3, ![8, 1024, 11]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x1024 : Shape := ⟨3, ![8, 4096, 1024]⟩
abbrev S8x4096x4 : Shape := ⟨3, ![8, 4096, 4]⟩

class Facts : Prop where
  slices_S8x136x4096_S8x8x4096_0_0_0 : S8x136x4096.Slices ![0, 0, 0] S8x8x4096
  slices_S8x264x1024_S8x8x1024_0_0_0 : S8x264x1024.Slices ![0, 0, 0] S8x8x1024
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x1024x3 : S_.BroadcastsInDim S8x1024x3 (![] : Fin 0 → Fin S8x1024x3.rank)
  reducesTo_S8x1024x3_S_d0_1_2 : S8x1024x3.ReducesTo [0, 1, 2] S_
  bcast_S_S8x8x4096 : S_.BroadcastsInDim S8x8x4096 (![] : Fin 0 → Fin S8x8x4096.rank)
  reducesTo_S8x8x4096_S_d0_1_2 : S8x8x4096.ReducesTo [0, 1, 2] S_
  bcast_S_S8x8x1024 : S_.BroadcastsInDim S8x8x1024 (![] : Fin 0 → Fin S8x8x1024.rank)
  reducesTo_S8x8x1024_S_d0_1_2 : S8x8x1024.ReducesTo [0, 1, 2] S_
  bcast_S_S256 : S_.BroadcastsInDim S256 (![] : Fin 0 → Fin S256.rank)
  reducesTo_S256_S_d0 : S256.ReducesTo [0] S_
  transposes_S8x8x4096_S8x4096x8_0_2_1 : S8x8x4096.Transposes [0, 2, 1] S8x4096x8
  concatenates_S8x4096x3_S8x4096x8_S8x4096x11_d2 : Shape.Concatenates [S8x4096x3, S8x4096x8] S8x4096x11 2
  transposes_S8x8x1024_S8x1024x8_0_2_1 : S8x8x1024.Transposes [0, 2, 1] S8x1024x8
  concatenates_S8x1024x3_S8x1024x8_S8x1024x11_d2 : Shape.Concatenates [S8x1024x3, S8x1024x8] S8x1024x11 2
  reducesTo_S8x4096x11_S8x4096_d2 : S8x4096x11.ReducesTo [2] S8x4096
  bcast_S8x4096_S8x4096x1_0_1 : S8x4096.BroadcastsInDim S8x4096x1 (![0, 1] : Fin 2 → Fin S8x4096x1.rank)
  reducesTo_S8x1024x11_S8x1024_d2 : S8x1024x11.ReducesTo [2] S8x1024
  bcast_S8x1024_S8x1x1024_0_2 : S8x1024.BroadcastsInDim S8x1x1024 (![0, 2] : Fin 2 → Fin S8x1x1024.rank)
  bcast_S8x4096x1_S8x4096x1024_0_1_2 : S8x4096x1.BroadcastsInDim S8x4096x1024 (![0, 1, 2] : Fin 3 → Fin S8x4096x1024.rank)
  bcast_S8x1x1024_S8x4096x1024_0_1_2 : S8x1x1024.BroadcastsInDim S8x4096x1024 (![0, 1, 2] : Fin 3 → Fin S8x4096x1024.rank)
  bcast_S_S8x4096x1024 : S_.BroadcastsInDim S8x4096x1024 (![] : Fin 0 → Fin S8x4096x1024.rank)
  sliceFits_S8x4096x1024_S8x4096x4 : S8x4096x1024.Slices (fun _ => 0) S8x4096x4
  slices_S8x4096x4_S8x4096x1_0_0_3 : S8x4096x4.Slices ![0, 0, 3] S8x4096x1
  shapeCasts_S8x4096x1_S8x4096 : S8x4096x1.ShapeCasts S8x4096
  slices_S8x4096x4_S8x4096x1_0_0_2 : S8x4096x4.Slices ![0, 0, 2] S8x4096x1
  reducesTo_S8x4096_S_d0_1 : S8x4096.ReducesTo [0, 1] S_
  dot_S8x4096x11_S8x1024x11_S8x4096x1024_2_2_1_1_0_0_wf : DotDims.WF S8x4096x11 S8x1024x11 S8x4096x1024 [2] [2] [1] [1] [0] [0]

variable [Facts]

def dot_S8x4096x11_S8x1024x11_S8x4096x1024_2_2_1_1_0_0 : DotDims S8x4096x11 S8x1024x11 S8x4096x1024 where
  lhsContracting := [2]
  rhsContracting := [2]
  lhsNonContracting := [1]
  rhsNonContracting := [1]
  lhsBatch := [0]
  rhsBatch := [0]
  wf := dot_S8x4096x11_S8x1024x11_S8x4096x1024_2_2_1_1_0_0_wf
def fn_part3 {F : FTy → Type} [FloatOps F] (main_v31 : IVec S_ 1) (main_values : FVec F S8x4096x4 .f32) (main_v53 : FVec F S8x4096 .f32) : IVec S_ 1 :=
  let main_v54 : FVec F S8x4096x1 .f32 := (extractStridedSlice S8x4096x1 ![0, 0, 2] · slices_S8x4096x4_S8x4096x1_0_0_2) main_values
  let main_v55 : FVec F S8x4096 .f32 := shapeCast S8x4096 main_v54 shapeCasts_S8x4096x1_S8x4096
  let main_v56 : IVec S8x4096 1 := cmpf .olt main_v53 main_v55
  let main_c_14 : IVec S_ 1 := constantI S_ 1 1#1
  let main_v57 : IVec S_ 1 := (fun x v => Host.reduce IntOp.andi x v reducesTo_S8x4096_S_d0_1 h_S_) main_v56 main_c_14
  let main_v58 : IVec S_ 1 := andi main_v31 main_v57
  main_v58

def fn_part2 {F : FTy → Type} [FloatOps F] (main_arg1 : FVec F S8x1024x3 .f32) (main_arg3 : FVec F S8x264x1024 .f32) (main_v31 : IVec S_ 1) (main_v34 : FVec F S8x4096x11 .f32) : IVec S_ 1 :=
  let main_v35 : FVec F S8x8x1024 .f32 := (extractStridedSlice S8x8x1024 ![0, 0, 0] · slices_S8x264x1024_S8x8x1024_0_0_0) main_arg3
  let main_v36 : FVec F S8x1024x8 .f32 := (transpose S8x1024x8 [0, 2, 1] · transposes_S8x8x1024_S8x1024x8_0_2_1) main_v35
  let main_v37 : FVec F S8x1024x11 .f32 := (fun a b => concatenate S8x1024x11 2 [⟨S8x1024x3, a⟩, ⟨S8x1024x8, b⟩] concatenates_S8x1024x3_S8x1024x8_S8x1024x11_d2) main_arg1 main_v36
  let main_v38 : FVec F S8x4096x11 .f32 := mulf main_v34 main_v34
  let main_cst_11 : FVec F S_ .f32 := constant S_ .f32 0x00000000#32
  let main_v39 : FVec F S8x4096 .f32 := (fun x v => Host.reduceAdd x v reducesTo_S8x4096x11_S8x4096_d2 h_S_) main_v38 main_cst_11
  let main_v40 : FVec F S8x4096x1 .f32 := broadcastInDim S8x4096x1 ![0, 1] bcast_S8x4096_S8x4096x1_0_1 main_v39
  let main_v41 : FVec F S8x1024x11 .f32 := mulf main_v37 main_v37
  let main_cst_12 : FVec F S_ .f32 := constant S_ .f32 0x00000000#32
  let main_v42 : FVec F S8x1024 .f32 := (fun x v => Host.reduceAdd x v reducesTo_S8x1024x11_S8x1024_d2 h_S_) main_v41 main_cst_12
  let main_v43 : FVec F S8x1x1024 .f32 := broadcastInDim S8x1x1024 ![0, 2] bcast_S8x1024_S8x1x1024_0_2 main_v42
  let main_v44 : FVec F S8x4096x1024 .f32 := broadcastInDim S8x4096x1024 ![0, 1, 2] bcast_S8x4096x1_S8x4096x1024_0_1_2 main_v40
  let main_v45 : FVec F S8x4096x1024 .f32 := broadcastInDim S8x4096x1024 ![0, 1, 2] bcast_S8x1x1024_S8x4096x1024_0_1_2 main_v43
  let main_v46 : FVec F S8x4096x1024 .f32 := addf main_v44 main_v45
  let main_v47 : FVec F S8x4096x1024 .f32 := (fun l r => Host.dotGeneral dot_S8x4096x11_S8x1024x11_S8x4096x1024_2_2_1_1_0_0 none l r) main_v34 main_v37
  let main_cst_13 : FVec F S_ .f32 := constant S_ .f32 0x40000000#32
  let main_v48 : FVec F S8x4096x1024 .f32 := broadcastInDim S8x4096x1024 ![] bcast_S_S8x4096x1024 main_cst_13
  let main_v49 : FVec F S8x4096x1024 .f32 := mulf main_v48 main_v47
  let main_v50 : FVec F S8x4096x1024 .f32 := subf main_v46 main_v49
  let main_v51 : FVec F S8x4096x1024 .f32 := Host.negf main_v50
  let main_values : FVec F S8x4096x4 .f32 := (fun x => (Host.topK S8x4096x4 2 (FloatOps.cmpfTotal .gt) x sliceFits_S8x4096x1024_S8x4096x4).1) main_v51
  let main_indices : IVec S8x4096x4 32 := (fun x => (Host.topK S8x4096x4 2 (FloatOps.cmpfTotal .gt) x sliceFits_S8x4096x1024_S8x4096x4).2) main_v51
  let main_v52 : FVec F S8x4096x1 .f32 := (extractStridedSlice S8x4096x1 ![0, 0, 3] · slices_S8x4096x4_S8x4096x1_0_0_3) main_values
  let main_v53 : FVec F S8x4096 .f32 := shapeCast S8x4096 main_v52 shapeCasts_S8x4096x1_S8x4096
  fn_part3 (F := F) main_v31 main_values main_v53

def fn_part1 {F : FTy → Type} [FloatOps F] (main_arg0 : FVec F S8x4096x3 .f32) (main_arg1 : FVec F S8x1024x3 .f32) (main_arg2 : FVec F S8x136x4096 .f32) (main_arg3 : FVec F S8x264x1024 .f32) (main_arg5 : FVec F S256 .f32) (main_arg8 : FVec F S256 .f32) (main_v1 : FVec F S8x8x1024 .f32) (main_v16 : IVec S_ 1) : IVec S_ 1 :=
  let main_v17 : FVec F S8x8x1024 .f32 := Host.absf main_v1
  let main_cst_5 : FVec F S_ .f32 := constant S_ .f32 0x7F800000#32
  let main_v18 : FVec F S8x8x1024 .f32 := broadcastInDim S8x8x1024 ![] bcast_S_S8x8x1024 main_cst_5
  let main_v19 : IVec S8x8x1024 1 := cmpf .olt main_v17 main_v18
  let main_c_6 : IVec S_ 1 := constantI S_ 1 1#1
  let main_v20 : IVec S_ 1 := (fun x v => Host.reduce IntOp.andi x v reducesTo_S8x8x1024_S_d0_1_2 h_S_) main_v19 main_c_6
  let main_v21 : IVec S_ 1 := andi main_v16 main_v20
  let main_v22 : FVec F S256 .f32 := Host.absf main_arg5
  let main_cst_7 : FVec F S_ .f32 := constant S_ .f32 0x7F800000#32
  let main_v23 : FVec F S256 .f32 := broadcastInDim S256 ![] bcast_S_S256 main_cst_7
  let main_v24 : IVec S256 1 := cmpf .olt main_v22 main_v23
  let main_c_8 : IVec S_ 1 := constantI S_ 1 1#1
  let main_v25 : IVec S_ 1 := (fun x v => Host.reduce IntOp.andi x v reducesTo_S256_S_d0 h_S_) main_v24 main_c_8
  let main_v26 : IVec S_ 1 := andi main_v21 main_v25
  let main_v27 : FVec F S256 .f32 := Host.absf main_arg8
  let main_cst_9 : FVec F S_ .f32 := constant S_ .f32 0x7F800000#32
  let main_v28 : FVec F S256 .f32 := broadcastInDim S256 ![] bcast_S_S256 main_cst_9
  let main_v29 : IVec S256 1 := cmpf .olt main_v27 main_v28
  let main_c_10 : IVec S_ 1 := constantI S_ 1 1#1
  let main_v30 : IVec S_ 1 := (fun x v => Host.reduce IntOp.andi x v reducesTo_S256_S_d0 h_S_) main_v29 main_c_10
  let main_v31 : IVec S_ 1 := andi main_v26 main_v30
  let main_v32 : FVec F S8x8x4096 .f32 := (extractStridedSlice S8x8x4096 ![0, 0, 0] · slices_S8x136x4096_S8x8x4096_0_0_0) main_arg2
  let main_v33 : FVec F S8x4096x8 .f32 := (transpose S8x4096x8 [0, 2, 1] · transposes_S8x8x4096_S8x4096x8_0_2_1) main_v32
  let main_v34 : FVec F S8x4096x11 .f32 := (fun a b => concatenate S8x4096x11 2 [⟨S8x4096x3, a⟩, ⟨S8x4096x8, b⟩] concatenates_S8x4096x3_S8x4096x8_S8x4096x11_d2) main_arg0 main_v33
  fn_part2 (F := F) main_arg1 main_arg3 main_v31 main_v34

def fn {F : FTy → Type} [FloatOps F] (main_arg0 : FVec F S8x4096x3 .f32) (main_arg1 : FVec F S8x1024x3 .f32) (main_arg2 : FVec F S8x136x4096 .f32) (main_arg3 : FVec F S8x264x1024 .f32) (main_arg4 : FVec F S256x384 .f32) (main_arg5 : FVec F S256 .f32) (main_arg6 : FVec F S256 .f32) (main_arg7 : FVec F S256x256 .f32) (main_arg8 : FVec F S256 .f32) (main_arg9 : FVec F S256 .f32) : IVec S_ 1 :=
  let main_v0 : FVec F S8x8x4096 .f32 := (extractStridedSlice S8x8x4096 ![0, 0, 0] · slices_S8x136x4096_S8x8x4096_0_0_0) main_arg2
  let main_v1 : FVec F S8x8x1024 .f32 := (extractStridedSlice S8x8x1024 ![0, 0, 0] · slices_S8x264x1024_S8x8x1024_0_0_0) main_arg3
  let main_v2 : FVec F S8x4096x3 .f32 := Host.absf main_arg0
  let main_cst : FVec F S_ .f32 := constant S_ .f32 0x7F800000#32
  let main_v3 : FVec F S8x4096x3 .f32 := broadcastInDim S8x4096x3 ![] bcast_S_S8x4096x3 main_cst
  let main_v4 : IVec S8x4096x3 1 := cmpf .olt main_v2 main_v3
  let main_c : IVec S_ 1 := constantI S_ 1 1#1
  let main_v5 : IVec S_ 1 := (fun x v => Host.reduce IntOp.andi x v reducesTo_S8x4096x3_S_d0_1_2 h_S_) main_v4 main_c
  let main_c_0 : IVec S_ 1 := constantI S_ 1 1#1
  let main_v6 : IVec S_ 1 := andi main_c_0 main_v5
  let main_v7 : FVec F S8x1024x3 .f32 := Host.absf main_arg1
  let main_cst_1 : FVec F S_ .f32 := constant S_ .f32 0x7F800000#32
  let main_v8 : FVec F S8x1024x3 .f32 := broadcastInDim S8x1024x3 ![] bcast_S_S8x1024x3 main_cst_1
  let main_v9 : IVec S8x1024x3 1 := cmpf .olt main_v7 main_v8
  let main_c_2 : IVec S_ 1 := constantI S_ 1 1#1
  let main_v10 : IVec S_ 1 := (fun x v => Host.reduce IntOp.andi x v reducesTo_S8x1024x3_S_d0_1_2 h_S_) main_v9 main_c_2
  let main_v11 : IVec S_ 1 := andi main_v6 main_v10
  let main_v12 : FVec F S8x8x4096 .f32 := Host.absf main_v0
  let main_cst_3 : FVec F S_ .f32 := constant S_ .f32 0x7F800000#32
  let main_v13 : FVec F S8x8x4096 .f32 := broadcastInDim S8x8x4096 ![] bcast_S_S8x8x4096 main_cst_3
  let main_v14 : IVec S8x8x4096 1 := cmpf .olt main_v12 main_v13
  let main_c_4 : IVec S_ 1 := constantI S_ 1 1#1
  let main_v15 : IVec S_ 1 := (fun x v => Host.reduce IntOp.andi x v reducesTo_S8x8x4096_S_d0_1_2 h_S_) main_v14 main_c_4
  let main_v16 : IVec S_ 1 := andi main_v11 main_v15
  fn_part1 (F := F) main_arg0 main_arg1 main_arg2 main_arg3 main_arg5 main_arg8 main_v1 main_v16
-- ==== Kernel.lean ====
abbrev S8x4096x3 : Shape := ⟨3, ![8, 4096, 3]⟩
abbrev S8x1024x3 : Shape := ⟨3, ![8, 1024, 3]⟩
abbrev S8x136x4096 : Shape := ⟨3, ![8, 136, 4096]⟩
abbrev S8x264x1024 : Shape := ⟨3, ![8, 264, 1024]⟩
abbrev S256x384 : Shape := ⟨2, ![256, 384]⟩
abbrev S256 : Shape := ⟨1, ![256]⟩
abbrev S256x256 : Shape := ⟨2, ![256, 256]⟩
abbrev S8x8x4096 : Shape := ⟨3, ![8, 8, 4096]⟩
abbrev S8x128x4096 : Shape := ⟨3, ![8, 128, 4096]⟩
abbrev S8x256x1024 : Shape := ⟨3, ![8, 256, 1024]⟩
abbrev S8x8x1024 : Shape := ⟨3, ![8, 8, 1024]⟩
abbrev S8x1024x8 : Shape := ⟨3, ![8, 1024, 8]⟩
abbrev S8x3x4096 : Shape := ⟨3, ![8, 3, 4096]⟩
abbrev S_ : Shape := ⟨0, ![]⟩
abbrev S8x5x4096 : Shape := ⟨3, ![8, 5, 4096]⟩
abbrev S8x16x4096 : Shape := ⟨3, ![8, 16, 4096]⟩
abbrev S8x1024x5 : Shape := ⟨3, ![8, 1024, 5]⟩
abbrev S8x1024x16 : Shape := ⟨3, ![8, 1024, 16]⟩
abbrev S8x256x4096 : Shape := ⟨3, ![8, 256, 4096]⟩
abbrev S256x1 : Shape := ⟨2, ![256, 1]⟩
abbrev S1x16x512 : Shape := ⟨3, ![1, 16, 512]⟩
abbrev S1x1024x16 : Shape := ⟨3, ![1, 1024, 16]⟩
abbrev S1x256x1024 : Shape := ⟨3, ![1, 256, 1024]⟩
abbrev S1x128x512 : Shape := ⟨3, ![1, 128, 512]⟩
abbrev S1x256x512 : Shape := ⟨3, ![1, 256, 512]⟩
abbrev S1024x512 : Shape := ⟨2, ![1024, 512]⟩
abbrev S16x512 : Shape := ⟨2, ![16, 512]⟩
abbrev S1024x16 : Shape := ⟨2, ![1024, 16]⟩
abbrev S512 : Shape := ⟨1, ![512]⟩
abbrev S1x512 : Shape := ⟨2, ![1, 512]⟩
abbrev S1024 : Shape := ⟨1, ![1024]⟩
abbrev S1024x1 : Shape := ⟨2, ![1024, 1]⟩
abbrev S8x512 : Shape := ⟨2, ![8, 512]⟩
abbrev S24x512 : Shape := ⟨2, ![24, 512]⟩
abbrev S256x1024 : Shape := ⟨2, ![256, 1024]⟩
abbrev S256x512 : Shape := ⟨2, ![256, 512]⟩
abbrev S128x512 : Shape := ⟨2, ![128, 512]⟩
abbrev S384x512 : Shape := ⟨2, ![384, 512]⟩
abbrev S8x264x4096 : Shape := ⟨3, ![8, 264, 4096]⟩

abbrev nBuf : Space → Nat
  | .hbm => 34
  | .vmem => 33
  | .smem => 0
  | _ => 0

abbrev bufTy : (tb : Table) → Fin (tcTables nBuf tb) → BufTy
  | .hbm, ⟨0, _⟩ => ⟨S8x4096x3, .f32⟩
  | .hbm, ⟨1, _⟩ => ⟨S8x1024x3, .f32⟩
  | .hbm, ⟨2, _⟩ => ⟨S8x136x4096, .f32⟩
  | .hbm, ⟨3, _⟩ => ⟨S8x264x1024, .f32⟩
  | .hbm, ⟨4, _⟩ => ⟨S256x384, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S8x8x4096, .f32⟩
  | .hbm, ⟨11, _⟩ => ⟨S8x128x4096, .f32⟩
  | .hbm, ⟨12, _⟩ => ⟨S8x256x1024, .f32⟩
  | .hbm, ⟨13, _⟩ => ⟨S8x8x1024, .f32⟩
  | .hbm, ⟨14, _⟩ => ⟨S8x1024x8, .f32⟩
  | .hbm, ⟨15, _⟩ => ⟨S8x3x4096, .f32⟩
  | .hbm, ⟨16, _⟩ => ⟨S_, .f32⟩
  | .hbm, ⟨17, _⟩ => ⟨S8x5x4096, .f32⟩
  | .hbm, ⟨18, _⟩ => ⟨S8x16x4096, .f32⟩
  | .hbm, ⟨19, _⟩ => ⟨S_, .f32⟩
  | .hbm, ⟨20, _⟩ => ⟨S8x1024x5, .f32⟩
  | .hbm, ⟨21, _⟩ => ⟨S8x1024x16, .f32⟩
  | .hbm, ⟨22, _⟩ => ⟨S8x256x4096, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S8x256x4096, .f32⟩
  | .hbm, ⟨30, _⟩ => ⟨S256x1, .f32⟩
  | .hbm, ⟨31, _⟩ => ⟨S256x1, .f32⟩
  | .hbm, ⟨32, _⟩ => ⟨S8x256x4096, .f32⟩
  | .hbm, ⟨33, _⟩ => ⟨S8x264x4096, .f32⟩
  | .local _ .vmem, ⟨0, _⟩ => ⟨S1x16x512, .f32⟩
  | .local _ .vmem, ⟨1, _⟩ => ⟨S1x16x512, .f32⟩
  | .local _ .vmem, ⟨2, _⟩ => ⟨S1x1024x16, .f32⟩
  | .local _ .vmem, ⟨3, _⟩ => ⟨S1x1024x16, .f32⟩
  | .local _ .vmem, ⟨4, _⟩ => ⟨S1x256x1024, .f32⟩
  | .local _ .vmem, ⟨5, _⟩ => ⟨S1x256x1024, .f32⟩
  | .local _ .vmem, ⟨6, _⟩ => ⟨S1x128x512, .f32⟩
  | .local _ .vmem, ⟨7, _⟩ => ⟨S1x128x512, .f32⟩
  | .local _ .vmem, ⟨8, _⟩ => ⟨S256x384, .f32⟩
  | .local _ .vmem, ⟨9, _⟩ => ⟨S1x256x512, .f32⟩
  | .local _ .vmem, ⟨10, _⟩ => ⟨S1x256x512, .f32⟩
  | .local _ .vmem, ⟨11, _⟩ => ⟨S256x1, .f32⟩
  | .local _ .vmem, ⟨12, _⟩ => ⟨S256x1, .f32⟩
  | .local _ .vmem, ⟨13, _⟩ => ⟨S1024x512, .f32⟩
  | .local _ .vmem, ⟨14, _⟩ => ⟨S1x256x1024, .f32⟩
  | .local _ .vmem, ⟨15, _⟩ => ⟨S1x256x1024, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S256x256, .f32⟩
  | .local _ .vmem, ⟨21, _⟩ => ⟨S1x256x1024, .f32⟩
  | .local _ .vmem, ⟨22, _⟩ => ⟨S1x256x1024, .f32⟩
  | .local _ .vmem, ⟨23, _⟩ => ⟨S256x1, .f32⟩
  | .local _ .vmem, ⟨24, _⟩ => ⟨S256x1, .f32⟩
  | .local _ .vmem, ⟨25, _⟩ => ⟨S1x256x1024, .f32⟩
  | .local _ .vmem, ⟨26, _⟩ => ⟨S1x256x1024, .f32⟩
  | .local _ .vmem, ⟨27, _⟩ => ⟨S256x1, .f32⟩
  | .local _ .vmem, ⟨28, _⟩ => ⟨S256x1, .f32⟩
  | .local _ .vmem, ⟨29, _⟩ => ⟨S256x1, .f32⟩
  | .local _ .vmem, ⟨30, _⟩ => ⟨S256x1, .f32⟩
  | .local _ .vmem, ⟨31, _⟩ => ⟨S1x256x1024, .f32⟩
  | .local _ .vmem, ⟨32, _⟩ => ⟨S1x256x1024, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg8_0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem8_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c32_i32 : BitVec 32 := 32#32
  let v19 : BitVec 32 := Scalar.addi c0_i32 c32_i32
  let c1_i32 : BitVec 32 := 1#32
  ⟨c0_i32, v19, c1_i32⟩
def k0_off1 (k0_t1 : Fin k0_t1_loop.trips) (c0_i32_59 : BitVec 32) : Fin 2 → Nat :=
  let c0_i32 : BitVec 32 := 0#32
  let c1_i32 : BitVec 32 := 1#32
  let arg11 : BitVec 32 := Scf.iv c0_i32 c1_i32 k0_t1
  let c32_i32_58 : BitVec 32 := 32#32
  let v124 : BitVec 32 := Scalar.muli arg11 c32_i32_58
  let v125 : BitVec 32 := Scalar.addi v124 c0_i32_59
  let v126 : Index := Scalar.indexCast v125
  let c0_60 : Index := 0#32
  ![v126.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S256x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S256x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S8x4096x3 : Shape := ⟨3, ![8, 4096, 3]⟩
abbrev S8x1024x3 : Shape := ⟨3, ![8, 1024, 3]⟩
abbrev S8x136x4096 : Shape := ⟨3, ![8, 136, 4096]⟩
abbrev S8x264x1024 : Shape := ⟨3, ![8, 264, 1024]⟩
abbrev S256x384 : Shape := ⟨2, ![256, 384]⟩
abbrev S256 : Shape := ⟨1, ![256]⟩
abbrev S256x256 : Shape := ⟨2, ![256, 256]⟩
abbrev S8x8x1024 : Shape := ⟨3, ![8, 8, 1024]⟩
abbrev S8x256x1024 : Shape := ⟨3, ![8, 256, 1024]⟩
abbrev S8x8x4096 : Shape := ⟨3, ![8, 8, 4096]⟩
abbrev S8x128x4096 : Shape := ⟨3, ![8, 128, 4096]⟩
abbrev S8x4096x8 : Shape := ⟨3, ![8, 4096, 8]⟩
abbrev S8x1024x8 : Shape := ⟨3, ![8, 1024, 8]⟩
abbrev S_ : Shape := ⟨0, ![]⟩
abbrev S8x4096x11 : Shape := ⟨3, ![8, 4096, 11]⟩
abbrev S8x1024x11 : Shape := ⟨3, ![8, 1024, 11]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8x4096x1024 : Shape := ⟨3, ![8, 4096, 1024]⟩
abbrev S8x4096x3x1 : Shape := ⟨4, ![8, 4096, 3, 1]⟩
abbrev S8x256x4096x3 : Shape := ⟨4, ![8, 256, 4096, 3]⟩
abbrev S8x4096x256 : Shape := ⟨3, ![8, 4096, 256]⟩
abbrev S8x256x4096 : Shape := ⟨3, ![8, 256, 4096]⟩
abbrev S8x384x4096 : Shape := ⟨3, ![8, 384, 4096]⟩
abbrev S1x256x1 : Shape := ⟨3, ![1, 256, 1]⟩
abbrev S8x264x4096 : Shape := ⟨3, ![8, 264, 4096]⟩

abbrev nBuf : Space → Nat
  | .hbm => 172
  | .vmem => 0
  | .smem => 0
  | _ => 0

abbrev hbmTy0_0 (i : Nat) : BufTy := match i % 128 with
  | 0 => ⟨S8x4096x3, .f32⟩
  | 1 => ⟨S8x1024x3, .f32⟩
  | 2 => ⟨S8x136x4096, .f32⟩
  | 3 => ⟨S8x264x1024, .f32⟩
  | 4 => ⟨S256x384, .f32⟩
  | 5 => ⟨S256, .f32⟩
  | 6 => ⟨S256, .f32⟩
  | 7 => ⟨S256x256, .f32⟩
  | 8 => ⟨S256, .f32⟩
  | 9 => ⟨S256, .f32⟩
  | 10 => ⟨S8x8x1024, .f32⟩
  | 11 => ⟨S8x256x1024, .f32⟩
  | 12 => ⟨S8x8x4096, .f32⟩
  | 13 => ⟨S8x128x4096, .f32⟩
  | 14 => ⟨S8x4096x8, .f32⟩
  | 15 => ⟨S8x1024x8, .f32⟩
  | 16 => ⟨S_, .f32⟩
  | 17 => ⟨S_, .f32⟩
  | 18 => ⟨S_, .f32⟩
  | 19 => ⟨S8x4096x8, .f32⟩
  | 20 => ⟨S8x4096x8, .f32⟩
  | 21 => ⟨S8x4096x11, .f32⟩
  | 22 => ⟨S_, .f32⟩
  | 23 => ⟨S8x1024x8, .f32⟩
  | 24 => ⟨S8x1024x8, .f32⟩
  | 25 => ⟨S8x1024x11, .f32⟩
  | 26 => ⟨S8x4096x11, .f32⟩
  | 27 => ⟨S_, .f32⟩
  | 28 => ⟨S8x4096, .f32⟩
  | 29 => ⟨S8x4096x1, .f32⟩
  | 30 => ⟨S8x1024x11, .f32⟩
  | 31 => ⟨S_, .f32⟩
  | 32 => ⟨S8x1024, .f32⟩
  | 33 => ⟨S8x1x1024, .f32⟩
  | 34 => ⟨S8x4096x1024, .f32⟩
  | 35 => ⟨S8x4096x1024, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S8x4096x1024, .f32⟩
  | 42 => ⟨S8x4096x1024, .f32⟩
  | 43 => ⟨S8x4096x3, .f32⟩
  | 44 => ⟨S8x4096x3, .i32⟩
  | 45 => ⟨S8x4096x3, .f32⟩
  | 46 => ⟨S_, .f32⟩
  | 47 => ⟨S8x4096x3, .f32⟩
  | 48 => ⟨S8x4096x3, .f32⟩
  | 49 => ⟨S8x4096x3, .f32⟩
  | 50 => ⟨S_, .f32⟩
  | 51 => ⟨S8x4096x3, .f32⟩
  | 52 => ⟨S8x4096x3, .f32⟩
  | 53 => ⟨S_, .f32⟩
  | 54 => ⟨S8x4096x3, .f32⟩
  | 55 => ⟨S8x4096x3, .f32⟩
  | 56 => ⟨S_, .f32⟩
  | 57 => ⟨S8x4096, .f32⟩
  | 58 => ⟨S8x4096x1, .f32⟩
  | 59 => ⟨S8x4096x3, .f32⟩
  | 60 => ⟨S8x4096x3, .f32⟩
  | 61 => ⟨S_, .i32⟩
  | 62 => ⟨S8x4096x3, .i32⟩
  | 63 => ⟨S8x4096x3, .i1⟩
  | 64 => ⟨S_, .i32⟩
  | 65 => ⟨S8x4096x3, .i32⟩
  | 66 => ⟨S8x4096x3, .i32⟩
  | 67 => ⟨S8x4096x3, .i32⟩
  | 68 => ⟨S8x4096x3x1, .i32⟩
  | 69 => ⟨S8x256x4096x3, .f32⟩
  | 70 => ⟨S8x4096x256, .f32⟩
  | 71 => ⟨S8x256x4096, .f32⟩
  | 72 => ⟨S8x384x4096, .f32⟩
  | 73 => ⟨S8x4096x256, .f32⟩
  | 74 => ⟨S8x256x4096, .f32⟩
  | 75 => ⟨S_, .f32⟩
  | 76 => ⟨S256, .f32⟩
  | 77 => ⟨S1x256x1, .f32⟩
  | 78 => ⟨S_, .f32⟩
  | 79 => ⟨S1x256x1, .f32⟩
  | 80 => ⟨S1x256x1, .f32⟩
  | 81 => ⟨S_, .i32⟩
  | 82 => ⟨S_, .f32⟩
  | 83 => ⟨S256, .f32⟩
  | 84 => ⟨S1x256x1, .f32⟩
  | 85 => ⟨S_, .f32⟩
  | 86 => ⟨S1x256x1, .f32⟩
  | 87 => ⟨S1x256x1, .f32⟩
  | 88 => ⟨S8x256x4096, .f32⟩
  | 89 => ⟨S8x256x4096, .f32⟩
  | 90 => ⟨S8x256x4096, .f32⟩
  | 91 => ⟨S_, .f32⟩
  | 92 => ⟨S_, .f32⟩
  | 93 => ⟨S_, .f32⟩
  | 94 => ⟨S_, .f32⟩
  | 95 => ⟨S256, .f32⟩
  | 96 => ⟨S1x256x1, .f32⟩
  | 97 => ⟨S1x256x1, .f32⟩
  | 98 => ⟨S1x256x1, .f32⟩
  | 99 => ⟨S_, .f32⟩
  | 100 => ⟨S_, .i1⟩
  | 101 => ⟨S_, .f32⟩
  | 102 => ⟨S_, .f32⟩
  | 103 => ⟨S1x256x1, .f32⟩
  | 104 => ⟨S1x256x1, .f32⟩
  | 105 => ⟨S8x256x4096, .f32⟩
  | 106 => ⟨S8x256x4096, .f32⟩
  | 107 => ⟨S_, .f32⟩
  | 108 => ⟨S1x256x1, .f32⟩
  | 109 => ⟨S1x256x1, .f32⟩
  | 110 => ⟨S1x256x1, .f32⟩
  | 111 => ⟨S8x256x4096, .f32⟩
  | 112 => ⟨S8x256x4096, .f32⟩
  | 113 => ⟨S1x256x1, .f32⟩
  | 114 => ⟨S8x256x4096, .f32⟩
  | 115 => ⟨S8x256x4096, .f32⟩
  | 116 => ⟨S1x256x1, .f32⟩
  | 117 => ⟨S8x256x4096, .f32⟩
  | 118 => ⟨S8x256x4096, .f32⟩
  | 119 => ⟨S_, .f32⟩
  | 120 => ⟨S8x256x4096, .f32⟩
  | 121 => ⟨S8x256x4096, .f32⟩
  | 122 => ⟨S8x4096x256, .f32⟩
  | 123 => ⟨S8x256x4096, .f32⟩
  | 124 => ⟨S_, .f32⟩
  | 125 => ⟨S256, .f32⟩
  | 126 => ⟨S1x256x1, .f32⟩
  | 127 => ⟨S_, .f32⟩
  | _ => ⟨S8x4096x3, .f32⟩

abbrev hbmTy0_1 (i : Nat) : BufTy := match i % 128 with
  | 0 => ⟨S1x256x1, .f32⟩
  | 1 => ⟨S1x256x1, .f32⟩
  | 2 => ⟨S_, .i32⟩
  | 3 => ⟨S_, .f32⟩
  | 4 => ⟨S256, .f32⟩
  | 5 => ⟨S1x256x1, .f32⟩
  | 6 => ⟨S_, .f32⟩
  | 7 => ⟨S1x256x1, .f32⟩
  | 8 => ⟨S1x256x1, .f32⟩
  | 9 => ⟨S8x256x4096, .f32⟩
  | 10 => ⟨S8x256x4096, .f32⟩
  | 11 => ⟨S8x256x4096, .f32⟩
  | 12 => ⟨S_, .f32⟩
  | 13 => ⟨S_, .f32⟩
  | 14 => ⟨S_, .f32⟩
  | 15 => ⟨S_, .f32⟩
  | 16 => ⟨S256, .f32⟩
  | 17 => ⟨S1x256x1, .f32⟩
  | 18 => ⟨S1x256x1, .f32⟩
  | 19 => ⟨S1x256x1, .f32⟩
  | 20 => ⟨S_, .f32⟩
  | 21 => ⟨S_, .i1⟩
  | 22 => ⟨S_, .f32⟩
  | 23 => ⟨S_, .f32⟩
  | 24 => ⟨S1x256x1, .f32⟩
  | 25 => ⟨S1x256x1, .f32⟩
  | 26 => ⟨S8x256x4096, .f32⟩
  | 27 => ⟨S8x256x4096, .f32⟩
  | 28 => ⟨S_, .f32⟩
  | 29 => ⟨S1x256x1, .f32⟩
  | 30 => ⟨S1x256x1, .f32⟩
  | 31 => ⟨S1x256x1, .f32⟩
  | 32 => ⟨S8x256x4096, .f32⟩
  | 33 => ⟨S8x256x4096, .f32⟩
  | 34 => ⟨S1x256x1, .f32⟩
  | 35 => ⟨S8x256x4096, .f32⟩
  | 36 => ⟨S8x256x4096, .f32⟩
  | 37 => ⟨S1x256x1, .f32⟩
  | 38 => ⟨S8x256x4096, .f32⟩
  | 39 => ⟨S8x256x4096, .f32⟩
  | 40 => ⟨S_, .f32⟩
  | 41 => ⟨S8x256x4096, .f32⟩
  | 42 => ⟨S8x256x4096, .f32⟩
  | 43 => ⟨S8x264x4096, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_values : Ref sig .tc := ⟨.hbm, 43, rfl⟩
abbrev main_indices : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_cst_0 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_cst_1 : Ref sig .tc := ⟨.hbm, 92, rfl⟩
abbrev main_call0_v8 : Ref sig .tc := ⟨.hbm, 93, rfl⟩
abbrev main_call0_cst_2 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_v12 : Ref sig .tc := ⟨.hbm, 98, rfl⟩
abbrev main_call0_cst_3 : Ref sig .tc := ⟨.hbm, 99, rfl⟩
abbrev main_call0_v13 : Ref sig .tc := ⟨.hbm, 100, rfl⟩
abbrev main_call0_cst_4 : Ref sig .tc := ⟨.hbm, 101, rfl⟩
abbrev main_call0_call0_v0 : Ref sig .tc := ⟨.hbm, 102, rfl⟩
abbrev main_call0_call0_v1 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_11 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_call1_cst : Ref sig .tc := ⟨.hbm, 119, rfl⟩
abbrev main_call1_v0 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_12 : Ref sig .tc := ⟨.hbm, 124, rfl⟩
abbrev main_v74 : Ref sig .tc := ⟨.hbm, 125, rfl⟩
abbrev main_v75 : Ref sig .tc := ⟨.hbm, 126, rfl⟩
abbrev main_cst_13 : Ref sig .tc := ⟨.hbm, 127, rfl⟩
abbrev main_v76 : Ref sig .tc := ⟨.hbm, 128, rfl⟩
abbrev main_v77 : Ref sig .tc := ⟨.hbm, 129, rfl⟩
abbrev main_c_14 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_cst_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_v6 : Ref sig .tc := ⟨.hbm, 139, rfl⟩
abbrev main_call2_v7 : Ref sig .tc := ⟨.hbm, 140, rfl⟩
abbrev main_call2_cst_1 : Ref sig .tc := ⟨.hbm, 141, rfl⟩
abbrev main_call2_v8 : Ref sig .tc := ⟨.hbm, 142, rfl⟩
abbrev main_call2_cst_2 : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_v12 : Ref sig .tc := ⟨.hbm, 147, rfl⟩
abbrev main_call2_cst_3 : Ref sig .tc := ⟨.hbm, 148, rfl⟩
abbrev main_call2_v13 : Ref sig .tc := ⟨.hbm, 149, rfl⟩
abbrev main_call2_cst_4 : Ref sig .tc := ⟨.hbm, 150, rfl⟩
abbrev main_call2_call0_v0 : Ref sig .tc := ⟨.hbm, 151, rfl⟩
abbrev main_call2_call0_v1 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_cst_15 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_call3_cst : Ref sig .tc := ⟨.hbm, 168, rfl⟩
abbrev main_call3_v0 : Ref sig .tc := ⟨.hbm, 169, rfl⟩
abbrev main_v92 : Ref sig .tc := ⟨.hbm, 170, rfl⟩
abbrev main_v93 : Ref sig .tc := ⟨.hbm, 171, rfl⟩

abbrev nD : Nat := 1
abbrev τ : Topo := Topo.v7x

variable {F : FTy → Type} [FloatOps F]
-- ==== Proof.TopThree.lean ====
/-
  The three smallest of 1024 numbers, as the kernel finds them: eight running triples, one per residue of
  the row modulo eight, each fed its rows by an insertion network of minima and maxima; then, of the
  twenty-four numbers the triples hold, three times the least, the row it was found at being set to +∞.
-/
module

public import Idealize.ShloMosaic.PureOps.Ideal

@[expose] public section

namespace Cert.TopThree

/-- How many of the three numbers of a triple are at most `t`. -/
noncomputable def below (t : EReal) (m : EReal × EReal × EReal) : ℕ :=
  (if m.1 ≤ t then 1 else 0) + (if m.2.1 ≤ t then 1 else 0) + (if m.2.2 ≤ t then 1 else 0)

/-- The insertion network: `v` put among the three numbers, the greatest of the four dropped. -/
noncomputable def insert3 (m : EReal × EReal × EReal) (v : EReal) : EReal × EReal × EReal :=
  (min m.1 v, min m.2.1 (max m.1 v), min m.2.2 (max m.2.1 (max m.1 v)))

/-- Inserting keeps, of the numbers at most `t`, up to three. -/
theorem below_insert3 (t : EReal) (m : EReal × EReal × EReal) (v : EReal) :
    below t (insert3 m v) = min 3 (below t m + if v ≤ t then 1 else 0) := by
  obtain ⟨a, b, c⟩ := m
  simp only [below, insert3, min_le_iff, max_le_iff]
  by_cases ha : a ≤ t <;> by_cases hb : b ≤ t <;> by_cases hc : c ≤ t <;> by_cases hv : v ≤ t <;>
    simp [ha, hb, hc, hv]

/-- The triple after the first `k` of the numbers `f 0, f 1, …`. -/
noncomputable def scan (f : ℕ → EReal) : ℕ → EReal × EReal × EReal
  | 0 => (⊤, ⊤, ⊤)
  | k + 1 => insert3 (scan f k) (f k)

/-- The scan's triple holds, of the numbers at most `t`, up to three. -/
theorem below_scan (f : ℕ → EReal) (t : EReal) (ht : t < ⊤) (k : ℕ) :
    below t (scan f k) = min 3 (∑ q ∈ Finset.range k, if f q ≤ t then 1 else 0) := by
  induction k with
  | zero => simp [scan, below, not_le.mpr ht]
  | succ k ih =>
    rw [scan, below_insert3, ih, Finset.sum_range_succ]
    omega

/-- The least of twenty-four numbers, found by one pass: `c` with one of its least places set to +∞. -/
def Struck (c c' : Fin 24 → EReal) (v : EReal) : Prop :=
  (∀ r, v ≤ c r) ∧ ∃ r, c r = v ∧ c' = Function.update c r ⊤

/-- How many of the twenty-four numbers are at most `t`. -/
noncomputable def many (t : EReal) (c : Fin 24 → EReal) : ℕ := ∑ r, if c r ≤ t then 1 else 0

theorem le_iff_many {c : Fin 24 → EReal} {v : EReal} (h : ∀ r, v ≤ c r) (h' : ∃ r, c r = v) (t : EReal) :
    v ≤ t ↔ 1 ≤ many t c := by
  obtain ⟨r, hr⟩ := h'
  unfold many
  constructor
  · intro hv
    have := Finset.single_le_sum (f := fun r => if c r ≤ t then 1 else 0) (fun _ _ => Nat.zero_le _) (Finset.mem_univ r)
    simpa [hr, hv] using this
  · intro hm
    by_contra hv
    have : ∀ r, ¬ c r ≤ t := fun r hc => hv ((h r).trans hc)
    simp [this] at hm

theorem many_struck {c c' : Fin 24 → EReal} {v : EReal} (h : Struck c c' v) {t : EReal} (ht : t < ⊤) :
    many t c' = many t c - 1 := by
  obtain ⟨hle, r, hr, rfl⟩ := h
  unfold many
  rw [← Finset.add_sum_erase _ _ (Finset.mem_univ r),
    ← Finset.add_sum_erase _ (fun r => if c r ≤ t then 1 else 0) (Finset.mem_univ r)]
  have e : ∑ x ∈ Finset.univ.erase r, (if Function.update c r ⊤ x ≤ t then 1 else 0)
      = ∑ x ∈ Finset.univ.erase r, (if c x ≤ t then 1 else 0) :=
    Finset.sum_congr rfl fun x hx => by rw [Function.update_of_ne (Finset.ne_of_mem_erase hx)]
  rw [e, Function.update_self, if_neg (not_le.mpr ht)]
  by_cases hv : c r ≤ t
  · simp [hv]
  · have : ∀ x ∈ Finset.univ.erase r, (if c x ≤ t then 1 else 0) = 0 := fun x _ =>
      if_neg fun hc => hv ((hr.le.trans (hle x)).trans hc)
    rw [Finset.sum_congr rfl this]
    simp [hv]

/-- The three passes: `v k ≤ t` says that at least `k + 1` of the numbers are at most `t`. -/
theorem passes_le_iff {c c1 c2 : Fin 24 → EReal} {v0 v1 v2 : EReal} (h0 : Struck c c1 v0) (h1 : Struck c1 c2 v1)
    (h2 : (∀ r, v2 ≤ c2 r) ∧ ∃ r, c2 r = v2) {t : EReal} (ht : t < ⊤) :
    (v0 ≤ t ↔ 1 ≤ many t c) ∧ (v1 ≤ t ↔ 2 ≤ many t c) ∧ (v2 ≤ t ↔ 3 ≤ many t c) := by
  have e1 := many_struck h0 ht
  have e2 := many_struck h1 ht
  refine ⟨le_iff_many h0.1 ⟨_, h0.2.choose_spec.1⟩ t, ?_, ?_⟩
  · rw [le_iff_many h1.1 ⟨_, h1.2.choose_spec.1⟩ t]; omega
  · rw [le_iff_many h2.1 h2.2 t]; omega

/-- Row `8 q + s` of the 1024, +∞ past the last. -/
noncomputable def rowOf (e : Fin 1024 → EReal) (s : Fin 8) (q : ℕ) : EReal :=
  if h : 8 * q + s.val < 1024 then e ⟨8 * q + s.val, h⟩ else ⊤

/-- The number at place `r`: the firsts of the eight triples, then the seconds, then the thirds. -/
noncomputable def heldAt (e : Fin 1024 → EReal) (r : ℕ) : EReal :=
  if r < 8 then (scan (rowOf e ⟨r % 8, Nat.mod_lt _ (by decide)⟩) 128).1
  else if r < 16 then (scan (rowOf e ⟨r % 8, Nat.mod_lt _ (by decide)⟩) 128).2.1
  else (scan (rowOf e ⟨r % 8, Nat.mod_lt _ (by decide)⟩) 128).2.2

/-- The twenty-four numbers the eight triples hold after all rows. -/
noncomputable def held (e : Fin 1024 → EReal) (r : Fin 24) : EReal := heldAt e r.val

/-- How many of the 1024 numbers are at most `t`. -/
noncomputable def count (t : EReal) (e : Fin 1024 → EReal) : ℕ := ∑ m, if e m ≤ t then 1 else 0

/-- A sum over twenty-four places, eight at a time. -/
theorem sum_by_eight (f : ℕ → ℕ) : ∑ r : Fin 24, f r.val = ∑ s : Fin 8, (f s.val + f (8 + s.val) + f (16 + s.val)) := by
  have h : ∑ r : Fin (8 + 8 + 8), f r.val = _ := Fin.sum_univ_add fun r => f r.val
  rw [show (∑ r : Fin 24, f r.val) = _ from h, Fin.sum_univ_add, Finset.sum_add_distrib, Finset.sum_add_distrib]
  rfl

theorem many_held (e : Fin 1024 → EReal) (t : EReal) :
    many t (held e) = ∑ s : Fin 8, below t (scan (rowOf e s) 128) := by
  have h : many t (held e) = ∑ s : Fin 8, ((if heldAt e s.val ≤ t then 1 else 0)
      + (if heldAt e (8 + s.val) ≤ t then 1 else 0) + if heldAt e (16 + s.val) ≤ t then 1 else 0) :=
    sum_by_eight fun r => if heldAt e r ≤ t then 1 else 0
  rw [h]
  refine Finset.sum_congr rfl fun s _ => ?_
  have e0 : (⟨s.val % 8, Nat.mod_lt _ (by decide)⟩ : Fin 8) = s := Fin.ext (Nat.mod_eq_of_lt s.isLt)
  have e1 : (⟨(8 + s.val) % 8, Nat.mod_lt _ (by decide)⟩ : Fin 8) = s := Fin.ext (by show (8 + s.val) % 8 = s.val; omega)
  have e2 : (⟨(16 + s.val) % 8, Nat.mod_lt _ (by decide)⟩ : Fin 8) = s := Fin.ext (by show (16 + s.val) % 8 = s.val; omega)
  have h0 : heldAt e s.val = (scan (rowOf e s) 128).1 := by unfold heldAt; rw [if_pos s.isLt, e0]
  have h1 : heldAt e (8 + s.val) = (scan (rowOf e s) 128).2.1 := by
    unfold heldAt; rw [if_neg (by omega), if_pos (by omega), e1]
  have h2 : heldAt e (16 + s.val) = (scan (rowOf e s) 128).2.2 := by
    unfold heldAt; rw [if_neg (by omega), if_neg (by omega), e2]
  rw [h0, h1, h2, below]

theorem count_eq (e : Fin 1024 → EReal) (t : EReal) :
    count t e = ∑ s : Fin 8, ∑ q ∈ Finset.range 128, if rowOf e s q ≤ t then 1 else 0 := by
  have h : count t e = ∑ x : Fin 8 × Fin 128, if rowOf e x.1 x.2.val ≤ t then 1 else 0 := by
    unfold count
    let φ : Fin 8 × Fin 128 ≃ Fin 1024 :=
      { toFun := fun x => ⟨8 * x.2.val + x.1.val, by omega⟩
        invFun := fun m => (⟨m.val % 8, by omega⟩, ⟨m.val / 8, by omega⟩)
        left_inv := fun x => by
          refine Prod.ext (Fin.ext ?_) (Fin.ext ?_)
          · show (8 * x.2.val + x.1.val) % 8 = x.1.val; omega
          · show (8 * x.2.val + x.1.val) / 8 = x.2.val; omega
        right_inv := fun m => Fin.ext (by show 8 * (m.val / 8) + m.val % 8 = m.val; omega) }
    refine (Fintype.sum_equiv φ _ _ fun x => ?_).symm
    have hx : 8 * x.2.val + x.1.val < 1024 := by omega
    simp only [rowOf, hx, dif_pos]
    rfl
  rw [h, Fintype.sum_prod_type]
  refine Finset.sum_congr rfl fun s _ => ?_
  rw [Finset.sum_range]

/-- Up to three, the numbers held count as all of them do. -/
theorem many_held_le (e : Fin 1024 → EReal) {t : EReal} (ht : t < ⊤) (k : ℕ) (hk : k ≤ 3) :
    k ≤ many t (held e) ↔ k ≤ count t e := by
  rw [many_held, count_eq]
  simp only [below_scan _ _ ht, Fin.sum_univ_eight]
  omega

/-- `i 0`, `i 1`, `i 2` are three places whose numbers are least, in order. -/
structure Least (e : Fin 1024 → EReal) (i : Fin 3 → Fin 1024) : Prop where
  inj : Function.Injective i
  le01 : e (i 0) ≤ e (i 1)
  le12 : e (i 1) ≤ e (i 2)
  rest : ∀ m, (∀ k, m ≠ i k) → e (i 2) < e m

theorem count_ge {e : Fin 1024 → EReal} {t : EReal} (s : Finset (Fin 1024)) (h : ∀ m ∈ s, e m ≤ t) : s.card ≤ count t e := by
  unfold count
  rw [Finset.card_eq_sum_ones]
  calc ∑ m ∈ s, 1 = ∑ m ∈ s, (if e m ≤ t then 1 else 0) := Finset.sum_congr rfl fun m hm => by rw [if_pos (h m hm)]
    _ ≤ _ := Finset.sum_le_sum_of_subset (Finset.subset_univ s)

theorem count_le {e : Fin 1024 → EReal} {t : EReal} (s : Finset (Fin 1024)) (h : ∀ m, e m ≤ t → m ∈ s) : count t e ≤ s.card := by
  unfold count
  rw [Finset.card_eq_sum_ones, ← Finset.sum_filter, ← Finset.card_eq_sum_ones, ← Finset.card_eq_sum_ones]
  exact Finset.card_le_card fun m hm => h m (Finset.mem_filter.mp hm).2

theorem Least.le_iff {e : Fin 1024 → EReal} {i : Fin 3 → Fin 1024} (h : Least e i) (t : EReal) :
    (e (i 0) ≤ t ↔ 1 ≤ count t e) ∧ (e (i 1) ≤ t ↔ 2 ≤ count t e) ∧ (e (i 2) ≤ t ↔ 3 ≤ count t e) := by
  have n01 : i 0 ≠ i 1 := fun c => absurd (h.inj c) (by decide)
  have n02 : i 0 ≠ i 2 := fun c => absurd (h.inj c) (by decide)
  have n12 : i 1 ≠ i 2 := fun c => absurd (h.inj c) (by decide)
  have cases : ∀ m, m = i 0 ∨ m = i 1 ∨ m = i 2 ∨ e (i 2) < e m := fun m => by
    by_cases hm : ∀ k, m ≠ i k
    · exact Or.inr (Or.inr (Or.inr (h.rest m hm)))
    · push Not at hm
      obtain ⟨k, rfl⟩ := hm
      fin_cases k <;> simp
  refine ⟨⟨fun ht => ?_, fun hc => ?_⟩, ⟨fun ht => ?_, fun hc => ?_⟩, ⟨fun ht => ?_, fun hc => ?_⟩⟩
  · have := count_ge (e := e) (t := t) {i 0} (by simpa using ht)
    simpa using this
  · by_contra ht
    have := count_le (e := e) (t := t) ∅ fun m hm => by
      rcases cases m with rfl | rfl | rfl | hlt
      · exact absurd hm ht
      · exact absurd (h.le01.trans hm) ht
      · exact absurd ((h.le01.trans h.le12).trans hm) ht
      · exact absurd ((h.le01.trans h.le12).trans (hlt.le.trans hm)) ht
    simp at this; omega
  · have := count_ge (e := e) (t := t) {i 0, i 1} (by simpa using ⟨h.le01.trans ht, ht⟩)
    rwa [Finset.card_pair n01] at this
  · by_contra ht
    have := count_le (e := e) (t := t) {i 0} fun m hm => by
      rcases cases m with rfl | rfl | rfl | hlt
      · simp
      · exact absurd hm ht
      · exact absurd (h.le12.trans hm) ht
      · exact absurd (h.le12.trans (hlt.le.trans hm)) ht
    simp at this; omega
  · have := count_ge (e := e) (t := t) {i 0, i 1, i 2} (by simpa using ⟨(h.le01.trans h.le12).trans ht, h.le12.trans ht, ht⟩)
    rwa [Finset.card_insert_of_notMem (by simp [n01, n02]), Finset.card_pair n12] at this
  · by_contra ht
    have := count_le (e := e) (t := t) {i 0, i 1} fun m hm => by
      rcases cases m with rfl | rfl | rfl | hlt
      · simp
      · simp
      · exact absurd hm ht
      · exact absurd (hlt.le.trans hm) ht
    rw [Finset.card_pair n01] at this; omega

theorem eq_of_le_iff {a b : EReal} (hb : b < ⊤) (h : ∀ t, t < ⊤ → (a ≤ t ↔ b ≤ t)) : a = b := by
  have hab : a ≤ b := (h b hb).mpr le_rfl
  exact le_antisymm hab ((h a (lt_of_le_of_lt hab hb)).mp le_rfl)

/-- The kernel's three numbers are those of the three least places. -/
theorem three_least {e : Fin 1024 → EReal} (he : ∀ m, e m < ⊤) {i : Fin 3 → Fin 1024} (hi : Least e i)
    {c1 c2 : Fin 24 → EReal} {v0 v1 v2 : EReal} (h0 : Struck (held e) c1 v0) (h1 : Struck c1 c2 v1)
    (h2 : (∀ r, v2 ≤ c2 r) ∧ ∃ r, c2 r = v2) : v0 = e (i 0) ∧ v1 = e (i 1) ∧ v2 = e (i 2) := by
  refine ⟨eq_of_le_iff (he _) fun t ht => ?_, eq_of_le_iff (he _) fun t ht => ?_, eq_of_le_iff (he _) fun t ht => ?_⟩
  · rw [(passes_le_iff h0 h1 h2 ht).1, many_held_le e ht 1 (by decide), (hi.le_iff t).1]
  · rw [(passes_le_iff h0 h1 h2 ht).2.1, many_held_le e ht 2 (by decide), (hi.le_iff t).2.1]
  · rw [(passes_le_iff h0 h1 h2 ht).2.2, many_held_le e ht 3 (by decide), (hi.le_iff t).2.2]

end Cert.TopThree
-- ==== Proof.Consts.lean ====
/-
  The constants of the two programs as extended reals, and the operations on them where all is real.
-/
module

public import Idealize.ShloMosaic.PureOps.Ideal
public import Idealize.ShloMosaic.PureOps.Ideal.Laws

@[expose] public section

noncomputable section

open Idealize.ShloMosaic

namespace Cert.Consts

/-- The word of +∞. -/
theorem inf : Ideal.ofBits .f32 0x7F800000#32 = ⊤ := by
  simp [Ideal.ofBits, Ideal.ieee]

/-- The word of −2. -/
theorem neg_two : Ideal.ofBits .f32 0xC0000000#32 = ((-2 : ℝ) : EReal) := by
  simp [Ideal.ofBits, Ideal.ieee, -EReal.coe_mul, -EReal.coe_neg]
  norm_num

/-- The word of 2. -/
theorem two : Ideal.ofBits .f32 0x40000000#32 = ((2 : ℝ) : EReal) := by
  simp [Ideal.ofBits, Ideal.ieee, -EReal.coe_mul, -EReal.coe_neg]
  norm_num

/-- The number of columns of all batches, 32768. -/
theorem points : Ideal.ofBits .f32 0x47000000#32 = ((32768 : ℝ) : EReal) := by
  simp [Ideal.ofBits, Ideal.ieee, -EReal.coe_mul, -EReal.coe_neg]
  norm_num

/-- What is added to a distance before it is inverted. -/
def near : ℝ := 11258999 * (2 : ℝ) ^ (-50 : ℤ)

theorem near_eq : Ideal.ofBits .f32 0x322BCC77#32 = (near : EReal) := by
  simp [Ideal.ofBits, Ideal.ieee, near]

theorem near_pos : 0 < near := by unfold near; positivity

/-- What is added to a variance before its root is taken. -/
def eps : ℝ := 10995116 * (2 : ℝ) ^ (-40 : ℤ)

theorem eps_eq : Ideal.ofBits .f32 0x3727C5AC#32 = (eps : EReal) := by
  simp [Ideal.ofBits, Ideal.ieee, eps]

theorem eps_pos : 0 < eps := by unfold eps; positivity

/-- Division of reals, the divisor not zero. -/
theorem div_real (a : ℝ) {b : ℝ} (hb : b ≠ 0) : Ideal.div (a : EReal) (b : EReal) = ((a / b : ℝ) : EReal) := by
  have h : (b : EReal) ≠ 0 := by exact_mod_cast hb
  rw [Ideal.div, if_neg h, ← EReal.coe_inv, ← EReal.coe_mul, div_eq_mul_inv]

/-- The root of a real that is not negative. -/
theorem sqrt_real {a : ℝ} (ha : 0 ≤ a) : Ideal.sqrt (a : EReal) = (Real.sqrt a : EReal) := by
  show (if a < 0 then (⊥ : EReal) else (Real.sqrt a : EReal)) = _
  rw [if_neg (not_lt.mpr ha)]

/-- The greater of two reals. -/
theorem max_real (a b : ℝ) : max (a : EReal) (b : EReal) = ((max a b : ℝ) : EReal) :=
  (EReal.coe_strictMono.monotone.map_max).symm

/-- A finite sum of reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

end Cert.Consts

end

end
-- ==== Proof.Scan.lean ====
/-
  The first region's loop: each of its 32 trips reads four groups of eight rows of the distances kept in the
  scratch buffer, and puts each group among the running three least of its sublane.
-/
module

public import proofs.«01_k».proof.Proof.Gen.KernelIdeal.Frame
public import proofs.«01_k».proof.Proof.TopThree
public import proofs.«01_k».proof.Proof.Consts
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Scan

open Cert.KernelIdeal.Gen Cert.TopThree

/-- The three running blocks of eight sublanes. -/
local notation "Triple" => FVec Ideal S8x512 FTy.f32 × FVec Ideal S8x512 FTy.f32 × FVec Ideal S8x512 FTy.f32

variable (c : Dev nD) (i : grid0.Coords) (a2 : Memref sig .tc .vmem S1x16x512 .f32) (h2 : a2.IsWhole)
  (a3 : Memref sig .tc .vmem S1x1024x16 .f32) (h3 : a3.IsWhole) (a4 : Memref sig .tc .vmem S1x256x1024 .f32) (h4 : a4.IsWhole)
  (a5 : Memref sig .tc .vmem S1x128x512 .f32) (h5 : a5.IsWhole) (a6 : Memref sig .tc .vmem S256x384 .f32) (h6 : a6.IsWhole)
  (a7 : Memref sig .tc .vmem S1x256x512 .f32) (h7 : a7.IsWhole) (a8 : Memref sig .tc .vmem S256x1 .f32) (h8 : a8.IsWhole)
  (a9 : Memref sig .tc .vmem S256x1 .f32) (h9 : a9.IsWhole)

/-- The scratch buffer after the block of distances `d` was stored over all of it. -/
abbrev stored (d : Vec Ideal S1024x512 .f32) : BufTy.Contents (Elt Ideal) (scM0_0).view.ty :=
  (View.whole cc0_scratch0).writes (Elt Ideal) (View.whole cc0_scratch0).junk
    [⟨Rect.unit ![0, 0] ![1024, 512] inb_S1024x512_S1024x512_0_0, d⟩]

/-- The triple of one sublane and lane. -/
def cell (a : Triple) (s : Fin 8) (l : Fin 512) : EReal × EReal × EReal := (a.1 (ix2 s l), a.2.1 (ix2 s l), a.2.2 (ix2 s l))

/-- A group of eight rows, read at a sublane and lane. -/
theorem ld_group (d : Vec Ideal S1024x512 .f32) (k : Fin k0_t1_loop.trips) (r : Fin 4) (hin) (s : Fin 8) (l : Fin 512)
    (h : 32 * k.val + 8 * r.val + s.val < 1024) :
    View.ld d (Rect.unit (s := S1024x512) (k0_off1 k (BitVec.ofNat 32 (8 * r.val))) ![8, 512] hin) (ix2 s l)
      = d (ix2 ⟨32 * k.val + 8 * r.val + s.val, h⟩ l) := by
  rw [View.ld_apply]
  congr 1
  have e := k0_off1_eq k r
  funext a
  apply Fin.ext
  fin_cases a
  · show (k0_off1 k (BitVec.ofNat 32 (8 * r.val))) 0 + 1 * s.val = _
    rw [e]; simp
  · show (k0_off1 k (BitVec.ofNat 32 (8 * r.val))) 1 + 1 * l.val = _
    rw [e]; simp

/-- One trip, at a sublane and lane: four insertions. -/
theorem trip_cell (d : Vec Ideal S1024x512 .f32) (k : Fin k0_t1_loop.trips) (a : Triple) (s : Fin 8) (l : Fin 512) :
    cell (tripR_k0_t1 Variants.none c none i a2 h2 a3 h3 a4 h4 a5 h5 a6 h6 a7 h7 a8 h8 a9 h9 scM0_0 (Memref.isWhole_whole _) (stored d) k a) s l
      = insert3 (insert3 (insert3 (insert3 (cell a s l) (rowOf (fun m => d (ix2 m l)) s (4 * k.val)))
          (rowOf (fun m => d (ix2 m l)) s (4 * k.val + 1))) (rowOf (fun m => d (ix2 m l)) s (4 * k.val + 2)))
          (rowOf (fun m => d (ix2 m l)) s (4 * k.val + 3)) := by
  unfold tripR_k0_t1 trip_k0_t1
  dsimp only
  frame_out
  have hk : k.val < 32 := Nat.lt_of_lt_of_le k.isLt k0_t1_abs.2.1
  have r0 : rowOf (fun m => d (ix2 m l)) s (4 * k.val) = d (ix2 ⟨32 * k.val + 8 * (0 : Fin 4).val + s.val, by simp; omega⟩ l) := by
    unfold rowOf; rw [dif_pos (by omega)]; congr 3; simp; omega
  have r1 : rowOf (fun m => d (ix2 m l)) s (4 * k.val + 1) = d (ix2 ⟨32 * k.val + 8 * (1 : Fin 4).val + s.val, by simp; omega⟩ l) := by
    unfold rowOf; rw [dif_pos (by omega)]; congr 3; simp; omega
  have r2 : rowOf (fun m => d (ix2 m l)) s (4 * k.val + 2) = d (ix2 ⟨32 * k.val + 8 * (2 : Fin 4).val + s.val, by simp; omega⟩ l) := by
    unfold rowOf; rw [dif_pos (by omega)]; congr 3; simp; omega
  have r3 : rowOf (fun m => d (ix2 m l)) s (4 * k.val + 3) = d (ix2 ⟨32 * k.val + 8 * (3 : Fin 4).val + s.val, by simp; omega⟩ l) := by
    unfold rowOf; rw [dif_pos (by omega)]; congr 3; simp; omega
  have g0 := ld_group d k 0 (k0_off1_inb k 0) s l (by simp; omega)
  have g1 := ld_group d k 1 (k0_off1_inb k 1) s l (by simp; omega)
  have g2 := ld_group d k 2 (k0_off1_inb k 2) s l (by simp; omega)
  have g3 := ld_group d k 3 (k0_off1_inb k 3) s l (by simp; omega)
  rw [r0, r1, r2, r3, ← g0, ← g1, ← g2, ← g3]
  rfl

/-- The running triple before trip `n`: the scan of the sublane's first `4 n` rows. -/
theorem state_cell (d : Vec Ideal S1024x512 .f32) (s : Fin 8) (l : Fin 512) (n : ℕ) (hn : n ≤ 32) :
    cell (st_k0_t1 Variants.none c none i a2 h2 a3 h3 a4 h4 a5 h5 a6 h6 a7 h7 a8 h8 a9 h9 scM0_0 (Memref.isWhole_whole _) (stored d)
        (k0_pay6, k0_pay6, k0_pay6) n) s l
      = scan (rowOf (fun m => d (ix2 m l)) s) (4 * n) := by
  induction n with
  | zero =>
    have h : (k0_pay6 : FVec Ideal S8x512 .f32) (ix2 s l) = ⊤ := by
      pointwise [k0_pay6]
      exact Cert.Consts.inf
    rw [st_k0_t1_zero]
    simp only [cell, h]
    rfl
  | succ n ih =>
    have hlt : n < k0_t1_loop.trips := by
      have : k0_t1_loop.trips = 32 := by decide +kernel
      omega
    have := st_k0_t1_succ (F := Ideal) Variants.none c none i a2 h2 a3 h3 a4 h4 a5 h5 a6 h6 a7 h7 a8 h8 a9 h9 scM0_0 (Memref.isWhole_whole _)
      (stored d) (k0_pay6, k0_pay6, k0_pay6) ⟨n, hlt⟩
    rw [this, trip_cell, ih (by omega)]
    rfl

end Cert.KernelIdeal.Scan

end

end
-- ==== Proof.Passes.lean ====
/-
  Of the twenty-four numbers that the first region's loop leaves in a lane, the body takes the least three
  times, setting the row it stands at to +∞ after each: the three numbers are those of the three least places.
-/
module

public import proofs.«01_k».proof.Proof.Scan

@[expose] public section

set_option maxRecDepth 16384

noncomputable section

open Idealize.ShloMosaic Idealize.ShloMosaic.TcCoe Idealize.SL.Sem

namespace Cert.KernelIdeal.Passes

open Cert.KernelIdeal.Gen Cert.TopThree Cert.KernelIdeal.Scan

/-- The signed least of finitely many words and an initial one is among them, and at most each. -/
theorem fold_minsi {n : ℕ} (f : Fin n → BitVec 32) (w : BitVec 32) (s : Finset (Fin n)) :
    (s.fold IntOp.minsi w f = w ∨ ∃ x, s.fold IntOp.minsi w f = f x) ∧ ∀ x ∈ s, (s.fold IntOp.minsi w f).toInt ≤ (f x).toInt := by
  classical
  induction s using Finset.induction_on with
  | empty => simp
  | insert a s ha ih =>
    rw [Finset.fold_insert ha]
    obtain ⟨hm, hle⟩ := ih
    by_cases h : (f a).slt (s.fold IntOp.minsi w f)
    · have e : IntOp.minsi (f a) (s.fold IntOp.minsi w f) = f a := by simp [IntOp.minsi, h]
      have h' := BitVec.slt_iff_toInt_lt.mp h
      rw [e]
      refine ⟨Or.inr ⟨a, rfl⟩, fun x hx => ?_⟩
      rcases Finset.mem_insert.mp hx with rfl | hx
      · exact le_rfl
      · exact h'.le.trans (hle x hx)
    · have e : IntOp.minsi (f a) (s.fold IntOp.minsi w f) = s.fold IntOp.minsi w f := by simp [IntOp.minsi, h]
      have h' := not_lt.mp fun hlt => h (BitVec.slt_iff_toInt_lt.mpr hlt)
      rw [e]
      refine ⟨hm, fun x hx => ?_⟩
      rcases Finset.mem_insert.mp hx with rfl | hx
      · exact h'
      · exact hle x hx

theorem toInt_place (x : Fin 24) : (BitVec.ofNat 32 x.val).toInt = x.val := by
  revert x; decide

/-- The word found by the pass that looks for the least row equal to the least number is such a row. -/
theorem place_found (c : Fin 24 → EReal) (v : EReal) (h : ∃ r, c r = v) :
    ∃ r, c r = v ∧ Finset.univ.fold IntOp.minsi (2147483647#32) (fun x : Fin 24 => if c x = v then BitVec.ofNat 32 x.val else 24#32)
      = BitVec.ofNat 32 r.val := by
  obtain ⟨r, hr⟩ := h
  obtain ⟨hm, hle⟩ := fold_minsi (fun x : Fin 24 => if c x = v then BitVec.ofNat 32 x.val else 24#32) (2147483647#32) Finset.univ
  have h1 := hle r (Finset.mem_univ r)
  simp only [hr, if_true, toInt_place] at h1
  rcases hm with hm | ⟨x, hx⟩
  · rw [hm] at h1
    have : (2147483647#32).toInt = 2147483647 := by decide
    omega
  · by_cases hc : c x = v
    · exact ⟨x, hc, by rw [hx, if_pos hc]⟩
    · rw [hx, if_neg hc] at h1
      have : (24#32).toInt = 24 := by decide
      omega

theorem place_eq_iff (r x : Fin 24) : (BitVec.ofNat 32 r.val = BitVec.ofNat 32 x.val) ↔ r = x := by
  revert r x; decide

/-- The least of twenty-four numbers, taken from +∞ on, is at most each and one of them. -/
theorem fold_min (c : Fin 24 → EReal) :
    (∀ r, Finset.univ.fold min ⊤ c ≤ c r) ∧ ∃ r, c r = Finset.univ.fold min ⊤ c := by
  have h : Finset.univ.fold min ⊤ c = Finset.univ.inf c := rfl
  rw [h]
  refine ⟨fun r => Finset.inf_le (Finset.mem_univ r), ?_⟩
  obtain ⟨r, -, hr⟩ := Finset.exists_mem_eq_inf (Finset.univ : Finset (Fin 24)) ⟨0, Finset.mem_univ _⟩ c
  exact ⟨r, hr.symm⟩

/-- A lane's twenty-four numbers. -/
def lane (x : FVec Ideal S24x512 .f32) (l : Fin 512) (r : Fin 24) : EReal := x (ix2 r l)

/-- The least of a lane. -/
theorem least_spec (x : FVec Ideal S24x512 .f32) (l : Fin 512) :
    (∀ r, k0_pay23 x (ix2 0 l) ≤ lane x l r) ∧ ∃ r, lane x l r = k0_pay23 x (ix2 0 l) := by
  have h : k0_pay23 x (ix2 0 l) = Finset.univ.fold min ⊤ (lane x l) := by
    pointwise [k0_pay23]
    rw [Cert.Consts.inf]
    rfl
  rw [h]
  exact fold_min _

/-- The block with, in each lane, the place of its least number set to +∞. -/
def strike (x : FVec Ideal S24x512 .f32) : FVec Ideal S24x512 .f32 :=
  select (cmpi .eq (iota .tc S24x512 32 [0] iota_S24x512_d0_w32)
      (broadcastTo S24x512 (shapeCast S1x512 (multiReductionI .minsi [0] S512
        (select (cmpf .oeq x (broadcastTo S24x512 (k0_pay23 x) broadcasts_S1x512_S24x512)) (iota .tc S24x512 32 [0] iota_S24x512_d0_w32)
          (broadcast S24x512 24#32)) 2147483647#32 reduces_S24x512_S512 rfl) shapeCasts_S512_S1x512) broadcasts_S1x512_S24x512))
    (broadcast S24x512 (Scalar.ofBits .f32 0x7F800000#32)) x

theorem pay22_eq (a b e : FVec Ideal S8x512 .f32) : k0_pay22 a b e = strike (k0_pay20 a b e) := rfl
theorem pay21_eq (a b e : FVec Ideal S8x512 .f32) : k0_pay21 a b e = k0_pay23 (k0_pay20 a b e) := rfl
theorem pay24_eq (x : FVec Ideal S24x512 .f32) :
    k0_pay24 (iota .tc S24x512 32 [0] iota_S24x512_d0_w32) x = k0_pay23 (strike x) := rfl

/-- One pass strikes the least number out. -/
theorem strike_struck (x : FVec Ideal S24x512 .f32) (l : Fin 512) :
    Struck (lane x l) (lane (strike x) l) (k0_pay23 x (ix2 0 l)) := by
  obtain ⟨hle, hex⟩ := least_spec x l
  refine ⟨hle, ?_⟩
  obtain ⟨r, hr, hf⟩ := place_found (lane x l) _ hex
  refine ⟨r, hr, ?_⟩
  funext s
  show strike x (ix2 s l) = _
  pointwise [strike]
  unfold lane at hf
  rw [hf, Cert.Consts.inf, Function.update_apply]
  by_cases hs : s = r
  · rw [if_pos hs, (place_eq_iff s r).mpr hs]
    simp [Scalar.select, IntOp.cmpi]
  · rw [if_neg hs]
    have hne : ¬ BitVec.ofNat 32 s.val = BitVec.ofNat 32 r.val := fun h => hs ((place_eq_iff s r).mp h)
    simp [Scalar.select, IntOp.cmpi, beq_eq_false_iff_ne.mpr hne, lane]

/-- The concatenation of the three running blocks, in a lane: the numbers held. -/
theorem lane_joined (a : FVec Ideal S8x512 .f32 × FVec Ideal S8x512 .f32 × FVec Ideal S8x512 .f32) (e : Fin 1024 → EReal) (l : Fin 512)
    (h : ∀ s, cell a s l = scan (rowOf e s) 128) : lane (k0_pay20 a.1 a.2.1 a.2.2) l = held e := by
  funext r
  show k0_pay20 a.1 a.2.1 a.2.2 (ix2 r l) = heldAt e r.val
  pointwise [k0_pay20]
  unfold heldAt
  by_cases h1 : r.val < 8
  · rw [dif_pos h1, if_pos h1, ← h]
    simp only [cell]
    exact congrArg (fun q : Fin 8 => a.1 (ix2 q l)) (Fin.ext (a := ⟨r.val, by omega⟩) (b := ⟨r.val % 8, by omega⟩) (show r.val = r.val % 8 by omega))
  · rw [dif_neg h1, if_neg h1]
    by_cases h2 : r.val < 16
    · rw [dif_pos (by omega), if_pos h2, ← h]
      simp only [cell]
      exact congrArg (fun q : Fin 8 => a.2.1 (ix2 q l)) (Fin.ext (a := ⟨r.val - 8, by omega⟩) (b := ⟨r.val % 8, by omega⟩) (show r.val - 8 = r.val % 8 by omega))
    · rw [dif_neg (by omega), if_neg h2, ← h]
      simp only [cell]
      exact congrArg (fun q : Fin 8 => a.2.2 (ix2 q l)) (Fin.ext (a := ⟨r.val - 8 - 8, by omega⟩) (b := ⟨r.val % 8, by omega⟩) (show r.val - 8 - 8 = r.val % 8 by omega))

/-- The three numbers the body selects in a lane are those of its three least places. -/
theorem three_selected (a : FVec Ideal S8x512 .f32 × FVec Ideal S8x512 .f32 × FVec Ideal S8x512 .f32) (e : Fin 1024 → EReal) (l : Fin 512)
    (h : ∀ s, cell a s l = scan (rowOf e s) 128) (he : ∀ m, e m < ⊤) {i : Fin 3 → Fin 1024} (hi : Least e i) :
    k0_pay21 a.1 a.2.1 a.2.2 (ix2 0 l) = e (i 0)
    ∧ k0_pay23 (k0_pay22 a.1 a.2.1 a.2.2) (ix2 0 l) = e (i 1)
    ∧ k0_pay24 (iota .tc S24x512 32 [0] iota_S24x512_d0_w32) (k0_pay22 a.1 a.2.1 a.2.2) (ix2 0 l) = e (i 2) := by
  rw [pay21_eq, pay22_eq, pay24_eq]
  have s0 := strike_struck (k0_pay20 a.1 a.2.1 a.2.2) l
  rw [lane_joined a e l h] at s0
  exact three_least he hi s0 (strike_struck _ l) (least_spec _ l)

end Cert.KernelIdeal.Passes

end

end
-- ==== Proof.Spec.lean ====
/-
  The mathematics of the layer: squared distances and the weights of the three nearest points over the reals; what is
  interpolated from them, the mixing and batch normalization over the extended reals.
-/
module

public import proofs.«01_k».proof.Proof.TopThree
public import proofs.«01_k».proof.Proof.Consts

@[expose] public section

noncomputable section

open Idealize.ShloMosaic

namespace Cert.Spec

open Cert.TopThree

/-- The squared distance of two points of eleven coordinates. -/
def sqDist (u k : Fin 11 → ℝ) : ℝ := (∑ d, u d * u d + ∑ d, k d * k d) - 2 * ∑ d, u d * k d

/-- The inverse of a distance, kept finite. -/
def recip (d : ℝ) : ℝ := 1 / (Real.sqrt (max d 0) + Consts.near)

theorem recip_den_pos (d : ℝ) : 0 < Real.sqrt (max d 0) + Consts.near :=
  add_pos_of_nonneg_of_pos (Real.sqrt_nonneg _) Consts.near_pos

theorem recip_pos (d : ℝ) : 0 < recip d := div_pos one_pos (recip_den_pos d)

/-- The sum of three inverse distances. -/
def total (d : Fin 3 → ℝ) : ℝ := recip (d 0) + recip (d 1) + recip (d 2)

theorem total_pos (d : Fin 3 → ℝ) : 0 < total d := add_pos (add_pos (recip_pos _) (recip_pos _)) (recip_pos _)

/-- The weight of the `j`-th nearest point. -/
def weight (d : Fin 3 → ℝ) (j : Fin 3) : ℝ := recip (d j) / total d

/-- A feature interpolated from the three nearest points. -/
def blend (f : Fin 1024 → EReal) (d : Fin 1024 → ℝ) (i : Fin 3 → Fin 1024) : EReal :=
  ∑ j, (weight (fun j => d (i j)) j : EReal) * f (i j)

/-- A point's weight found by comparing its number with the three selected ones. -/
def chosen (e d : Fin 1024 → ℝ) (i : Fin 3 → Fin 1024) (m : Fin 1024) : ℝ :=
  if e m = e (i 0) then weight (fun j => d (i j)) 0
  else if e m = e (i 1) then weight (fun j => d (i j)) 1
  else if e m = e (i 2) then weight (fun j => d (i j)) 2 else 0

/-- Summing features by the weights so found is the interpolation, the three least places being least
    strictly: places of equal numbers among the three have equal weights. -/
theorem sum_chosen (f : Fin 1024 → EReal) (d : Fin 1024 → ℝ) {e : Fin 1024 → ℝ} {s : ℝ} (hd : ∀ m, d m = e m + s) {i : Fin 3 → Fin 1024}
    (hi : Least (fun m => (e m : EReal)) i) : ∑ m, f m * (chosen e d i m : EReal) = blend f d i := by
  classical
  have h01 : e (i 0) ≤ e (i 1) := EReal.coe_le_coe_iff.mp hi.le01
  have h12 : e (i 1) ≤ e (i 2) := EReal.coe_le_coe_iff.mp hi.le12
  have hr : ∀ m, (∀ k, m ≠ i k) → e (i 2) < e m := fun m hm => EReal.coe_lt_coe_iff.mp (hi.rest m hm)
  have hin : ∀ k, chosen e d i (i k) = weight (fun j => d (i j)) k := by
    intro k
    have w : ∀ j, e (i k) = e (i j) → weight (fun j => d (i j)) j = weight (fun j => d (i j)) k := by
      intro j hj
      have h : d (i j) = d (i k) := by rw [hd, hd, hj]
      simp only [weight]
      rw [h]
    unfold chosen
    by_cases c0 : e (i k) = e (i 0)
    · rw [if_pos c0]; exact w 0 c0
    rw [if_neg c0]
    by_cases c1 : e (i k) = e (i 1)
    · rw [if_pos c1]; exact w 1 c1
    rw [if_neg c1]
    by_cases c2 : e (i k) = e (i 2)
    · rw [if_pos c2]; exact w 2 c2
    · exfalso
      fin_cases k
      · exact c0 rfl
      · exact c1 rfl
      · exact c2 rfl
  have hout : ∀ m, m ∉ Finset.univ.image i → chosen e d i m = 0 := by
    intro m hm
    have hlt := hr m fun k hk => hm (Finset.mem_image.mpr ⟨k, Finset.mem_univ _, hk.symm⟩)
    unfold chosen
    rw [if_neg (ne_of_gt (lt_of_le_of_lt (h01.trans h12) hlt)), if_neg (ne_of_gt (lt_of_le_of_lt h12 hlt)), if_neg (ne_of_gt hlt)]
  rw [← Finset.sum_subset (Finset.subset_univ (Finset.univ.image i)) fun m _ hm => by rw [hout m hm, EReal.coe_zero, mul_zero],
    Finset.sum_image fun a _ b _ hab => hi.inj hab]
  exact Finset.sum_congr rfl fun k _ => by rw [hin k, mul_comm]

/-- A row of the first mixing matrix applied to the interpolated features and the point's own ones. -/
def mixed (w : Fin 384 → EReal) (p : Fin 256 → EReal) (q : Fin 128 → EReal) : EReal :=
  ∑ c : Fin 256, w ⟨c.val, by omega⟩ * p c + ∑ c : Fin 128, w ⟨256 + c.val, by omega⟩ * q c

/-- The mean over all columns of all batches. -/
def average (y : Fin 8 → Fin 4096 → EReal) : EReal := Ideal.div (∑ b, ∑ n, y b n) ((32768 : ℝ) : EReal)

/-- The variance over all columns of all batches. -/
def variance (y : Fin 8 → Fin 4096 → EReal) : EReal :=
  Ideal.div (∑ b, ∑ n, (y b n - average y) * (y b n - average y)) ((32768 : ℝ) : EReal)

/-- The normalized value, scaled. -/
def scaled (y : Fin 8 → Fin 4096 → EReal) (g : ℝ) (b : Fin 8) (n : Fin 4096) : EReal :=
  Ideal.div (y b n - average y) (Ideal.sqrt (variance y + (Consts.eps : EReal))) * (g : EReal)

/-- Batch normalization with its threshold at zero. -/
def normed (y : Fin 8 → Fin 4096 → EReal) (g : ℝ) (h : EReal) (b : Fin 8) (n : Fin 4096) : EReal := max (scaled y g b n + h) 0

end Cert.Spec

end

end
-- ==== Proof.Block.lean ====
/-
  What the first region's body computes of one block of 512 columns, read at a row and a column: the first
  mixing matrix applied to the features interpolated from the three nearest points and to the point's own.
-/
module

public import proofs.«01_k».proof.Proof.Passes
public import proofs.«01_k».proof.Proof.Spec

@[expose] public section

set_option maxRecDepth 16384

noncomputable section

open Idealize.ShloMosaic Idealize.ShloMosaic.TcCoe Idealize.SL.Sem

namespace Cert.KernelIdeal.Block

open Cert.KernelIdeal.Gen Cert.TopThree Cert.KernelIdeal.Scan Cert.KernelIdeal.Passes Cert.Spec

/-- Eleven coordinates followed by five zeros. -/
def padded (u : Fin 11 → ℝ) (d : Fin 16) : ℝ := if h : d.val < 11 then u ⟨d.val, h⟩ else 0

/-- A sum of products over the padded coordinates is the one over the eleven. -/
theorem sum_padded (u k : Fin 11 → ℝ) : ∑ d, padded u d * padded k d = ∑ d, u d * k d := by
  simp [Fin.sum_univ_succ, padded]

/-- A point's number less the part that all points of a lane share. -/
def short (u k : Fin 11 → ℝ) : ℝ := ∑ d, k d * k d + ∑ d, k d * (-2 * u d)

theorem sqDist_eq_short (u k : Fin 11 → ℝ) : sqDist u k = short u k + ∑ d, u d * u d := by
  have h : ∑ d, k d * (-2 * u d) = -2 * ∑ d, u d * k d := by
    rw [Finset.mul_sum]; exact Finset.sum_congr rfl fun d _ => by ring
  unfold sqDist short
  rw [h]; ring

/-- The three least places are the same by distance and by distance less the shared part. -/
theorem least_short {u : Fin 11 → ℝ} {k : Fin 1024 → Fin 11 → ℝ} {i : Fin 3 → Fin 1024}
    (hi : Least (fun m => ((sqDist u (k m) : ℝ) : EReal)) i) : Least (fun m => ((short u (k m) : ℝ) : EReal)) i where
  inj := hi.inj
  le01 := by
    have := EReal.coe_le_coe_iff.mp hi.le01
    rw [sqDist_eq_short, sqDist_eq_short] at this
    exact EReal.coe_le_coe_iff.mpr (by linarith)
  le12 := by
    have := EReal.coe_le_coe_iff.mp hi.le12
    rw [sqDist_eq_short, sqDist_eq_short] at this
    exact EReal.coe_le_coe_iff.mpr (by linarith)
  rest m hm := by
    have := EReal.coe_lt_coe_iff.mp (hi.rest m hm)
    rw [sqDist_eq_short, sqDist_eq_short] at this
    exact EReal.coe_lt_coe_iff.mpr (by linarith)

/-- The block of the first mixing that the body forms, from the loop's triple and the blocks it reads. -/
def y1 (a : FVec Ideal S8x512 .f32 × FVec Ideal S8x512 .f32 × FVec Ideal S8x512 .f32) (x0 : Vec Ideal S1x16x512 .f32)
    (x1 : Vec Ideal S1x1024x16 .f32) (x2 : Vec Ideal S1x256x1024 .f32) (x3 : Vec Ideal S1x128x512 .f32) (x4 : Vec Ideal S256x384 .f32) :
    FVec Ideal S256x512 .f32 :=
  k0_pay33 (k0_pay23 (k0_pay22 a.1 a.2.1 a.2.2))
    (k0_pay24 (iota .tc S24x512 32 [0] iota_S24x512_d0_w32) (k0_pay22 a.1 a.2.1 a.2.2))
    (k0_pay29 (k0_pay4 x0) (iota .tc S24x512 32 [0] iota_S24x512_d0_w32) (k0_pay21 a.1 a.2.1 a.2.2) (k0_pay22 a.1 a.2.1 a.2.2))
    (k0_pay30 (k0_pay4 x0) (iota .tc S24x512 32 [0] iota_S24x512_d0_w32) (k0_pay21 a.1 a.2.1 a.2.2) (k0_pay22 a.1 a.2.1 a.2.2))
    (k0_pay31 (k0_pay4 x0) (iota .tc S24x512 32 [0] iota_S24x512_d0_w32) (k0_pay21 a.1 a.2.1 a.2.2) (k0_pay22 a.1 a.2.1 a.2.2))
    (k0_pay5 x0 x1) (k0_pay32 (k0_pay21 a.1 a.2.1 a.2.2)) x2 x3 x4

/-- The scratch block of a lane: each point's number. -/
theorem numbers (x0 : Vec Ideal S1x16x512 .f32) (x1 : Vec Ideal S1x1024x16 .f32) (m : Fin 1024) (l : Fin 512) (u k : Fin 11 → ℝ)
    (h0 : ∀ d, x0 (ix3 0 d l) = ((padded u d : ℝ) : EReal)) (h1 : ∀ d, x1 (ix3 0 m d) = ((padded k d : ℝ) : EReal)) :
    k0_pay5 x0 x1 (ix2 m l) = ((short u k : ℝ) : EReal) := by
  pointwise [k0_pay5, k0_pay3]
  simp only [h0, h1, Consts.neg_two, ← EReal.coe_mul, Consts.sum_real, ← EReal.coe_add]
  have h : ∀ d, padded k d * (-2 * padded u d) = padded k d * padded (fun d => -2 * u d) d := fun d => by
    unfold padded; split <;> simp
  simp only [h, sum_padded]
  rfl

/-- The shared part of a lane's distances. -/
theorem shared (x0 : Vec Ideal S1x16x512 .f32) (l : Fin 512) (u : Fin 11 → ℝ)
    (h0 : ∀ d, x0 (ix3 0 d l) = ((padded u d : ℝ) : EReal)) : k0_pay4 x0 (ix2 0 l) = ((∑ d, u d * u d : ℝ) : EReal) := by
  pointwise [k0_pay4, k0_pay3]
  simp only [h0, ← EReal.coe_mul, Consts.sum_real, sum_padded]

/-- A selected number with the shared part added, inverted. -/
theorem inverted (v s d : ℝ) (h : d = v + s) :
    Ideal.div 1 (Ideal.sqrt (max ((v : EReal) + (s : EReal)) 0) + Ideal.ofBits .f32 0x322BCC77#32) = ((recip d : ℝ) : EReal) := by
  rw [← EReal.coe_add, ← h, show (0 : EReal) = ((0 : ℝ) : EReal) from rfl, Consts.max_real, Consts.sqrt_real (le_max_right _ _),
    Consts.near_eq, ← EReal.coe_add, show (1 : EReal) = ((1 : ℝ) : EReal) from rfl, Consts.div_real _ (recip_den_pos d).ne']
  rfl

/-- The three weights of a lane. -/
theorem weights (v6 v24 : FVec Ideal S1x512 .f32) (v34 : FVec Ideal S24x512 .f32) (l : Fin 512) (s : ℝ) (v d : Fin 3 → ℝ)
    (hd : ∀ j, d j = v j + s) (hs : v6 (ix2 0 l) = (s : EReal)) (h0 : v24 (ix2 0 l) = (v 0 : EReal))
    (h1 : k0_pay23 v34 (ix2 0 l) = (v 1 : EReal))
    (h2 : k0_pay24 (iota .tc S24x512 32 [0] iota_S24x512_d0_w32) v34 (ix2 0 l) = (v 2 : EReal)) :
    k0_pay29 v6 (iota .tc S24x512 32 [0] iota_S24x512_d0_w32) v24 v34 (ix2 0 l) = ((weight d 0 : ℝ) : EReal)
    ∧ k0_pay30 v6 (iota .tc S24x512 32 [0] iota_S24x512_d0_w32) v24 v34 (ix2 0 l) = ((weight d 1 : ℝ) : EReal)
    ∧ k0_pay31 v6 (iota .tc S24x512 32 [0] iota_S24x512_d0_w32) v24 v34 (ix2 0 l) = ((weight d 2 : ℝ) : EReal) := by
  have ht : recip (d 0) + recip (d 1) + recip (d 2) ≠ 0 := (total_pos d).ne'
  refine ⟨?_, ?_, ?_⟩
  · pointwise [k0_pay29, k0_pay28, k0_pay27, k0_pay26, k0_pay25]
    rw [hs, h0, h1, h2, inverted _ _ _ (hd 0), inverted _ _ _ (hd 1), inverted _ _ _ (hd 2), ← EReal.coe_add, ← EReal.coe_add,
      Consts.div_real _ ht]
    rfl
  · pointwise [k0_pay30, k0_pay28, k0_pay27, k0_pay26, k0_pay25]
    rw [hs, h0, h1, h2, inverted _ _ _ (hd 0), inverted _ _ _ (hd 1), inverted _ _ _ (hd 2), ← EReal.coe_add, ← EReal.coe_add,
      Consts.div_real _ ht]
    rfl
  · pointwise [k0_pay31, k0_pay28, k0_pay27, k0_pay26, k0_pay25]
    rw [hs, h0, h1, h2, inverted _ _ _ (hd 0), inverted _ _ _ (hd 1), inverted _ _ _ (hd 2), ← EReal.coe_add, ← EReal.coe_add,
      Consts.div_real _ ht]
    rfl

/-- The block's value at a row and a column, where the coordinates it reads are real. -/
theorem y1_apply (a : FVec Ideal S8x512 .f32 × FVec Ideal S8x512 .f32 × FVec Ideal S8x512 .f32) (x0 : Vec Ideal S1x16x512 .f32)
    (x1 : Vec Ideal S1x1024x16 .f32) (x2 : Vec Ideal S1x256x1024 .f32) (x3 : Vec Ideal S1x128x512 .f32) (x4 : Vec Ideal S256x384 .f32)
    (l : Fin 512) (o : Fin 256) (u : Fin 11 → ℝ) (k : Fin 1024 → Fin 11 → ℝ) (f : Fin 256 → Fin 1024 → EReal) (g : Fin 128 → EReal) (w : Fin 384 → EReal)
    (ha : ∀ s, cell a s l = scan (rowOf (fun m => k0_pay5 x0 x1 (ix2 m l)) s) 128)
    (h0 : ∀ d, x0 (ix3 0 d l) = ((padded u d : ℝ) : EReal)) (h1 : ∀ m d, x1 (ix3 0 m d) = ((padded (k m) d : ℝ) : EReal))
    (h2 : ∀ c m, x2 (ix3 0 c m) = f c m) (h3 : ∀ c, x3 (ix3 0 c l) = g c) (h4 : ∀ c, x4 (ix2 o c) = w c)
    {i : Fin 3 → Fin 1024} (hi : Least (fun m => ((sqDist u (k m) : ℝ) : EReal)) i) :
    y1 a x0 x1 x2 x3 x4 (ix2 o l) = mixed w (fun c => blend (f c) (fun m => sqDist u (k m)) i) g := by
  have hn : ∀ m, k0_pay5 x0 x1 (ix2 m l) = ((short u (k m) : ℝ) : EReal) := fun m => numbers x0 x1 m l u (k m) h0 (h1 m)
  have hs := least_short hi
  obtain ⟨e0, e1, e2⟩ := three_selected a (fun m => ((short u (k m) : ℝ) : EReal)) l
    (by simpa only [hn] using ha) (fun m => EReal.coe_lt_top _) hs
  obtain ⟨w0, w1, w2⟩ := weights (k0_pay4 x0) (k0_pay21 a.1 a.2.1 a.2.2) (k0_pay22 a.1 a.2.1 a.2.2) l (∑ d, u d * u d)
    (fun j => short u (k (i j))) (fun j => sqDist u (k (i j))) (fun j => sqDist_eq_short _ _) (shared x0 l u h0) e0 e1 e2
  have hc : ∀ m, (if k0_pay5 x0 x1 (ix2 m l) = k0_pay32 (k0_pay21 a.1 a.2.1 a.2.2) (ix2 m l)
      then k0_pay29 (k0_pay4 x0) (iota .tc S24x512 32 [0] iota_S24x512_d0_w32) (k0_pay21 a.1 a.2.1 a.2.2) (k0_pay22 a.1 a.2.1 a.2.2) (ix2 0 l)
      else if k0_pay5 x0 x1 (ix2 m l) = k0_pay23 (k0_pay22 a.1 a.2.1 a.2.2) (ix2 0 l)
      then k0_pay30 (k0_pay4 x0) (iota .tc S24x512 32 [0] iota_S24x512_d0_w32) (k0_pay21 a.1 a.2.1 a.2.2) (k0_pay22 a.1 a.2.1 a.2.2) (ix2 0 l)
      else if k0_pay5 x0 x1 (ix2 m l) = k0_pay24 (iota .tc S24x512 32 [0] iota_S24x512_d0_w32) (k0_pay22 a.1 a.2.1 a.2.2) (ix2 0 l)
      then k0_pay31 (k0_pay4 x0) (iota .tc S24x512 32 [0] iota_S24x512_d0_w32) (k0_pay21 a.1 a.2.1 a.2.2) (k0_pay22 a.1 a.2.1 a.2.2) (ix2 0 l)
      else 0) = ((chosen (fun m => short u (k m)) (fun m => sqDist u (k m)) i m : ℝ) : EReal) := by
    intro m
    have e : k0_pay32 (k0_pay21 a.1 a.2.1 a.2.2) (ix2 m l) = k0_pay21 a.1 a.2.1 a.2.2 (ix2 0 l) := by
      pointwise [k0_pay32]
    rw [e, hn, e0, e1, e2, w0, w1, w2]
    simp only [EReal.coe_eq_coe_iff]
    unfold chosen
    split_ifs <;> rfl
  unfold y1
  pointwise [k0_pay33]
  simp only [hc, h2, h3, h4, sum_chosen _ _ (fun m => sqDist_eq_short u (k m)) hs]
  rfl

end Cert.KernelIdeal.Block

end

end
-- ==== Proof.First.lean ====
/-
  The first region over its whole grid: the array of the first mixing's values, and its two running sums.
-/
module

public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.KernelIdeal.First

open Cert.KernelIdeal.Gen Cert.TopThree Cert.KernelIdeal.Scan Cert.KernelIdeal.Block Cert.Spec

variable (V : (c : Dev nD) → (b : Ref sig .tc) → Buf (Elt Ideal) ((c : Thread nD τ).loc b)) (c : Dev nD)

/-- What the loop over the rows leaves at a grid point: the three smallest numbers of every sublane and lane. -/
def left (t : Fin cfg0.N) : FVec Ideal S8x512 .f32 × FVec Ideal S8x512 .f32 × FVec Ideal S8x512 .f32 :=
  st_k0_t1 Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    (stored (k0_pay5 (iblk0 V c 0 t) (iblk0 V c 1 t))) (k0_pay6, k0_pay6, k0_pay6) (Scf.trips (0#32) (Scalar.addi 0#32 32#32) 1#32)

/-- The block of mixed values of a grid point. -/
def block (t : Fin cfg0.N) : FVec Ideal S256x512 .f32 :=
  y1 (left V c t) (iblk0 V c 0 t) (iblk0 V c 1 t) (iblk0 V c 2 t) (iblk0 V c 3 t) (iblk0 V c 4 t)

theorem left_cell (t : Fin cfg0.N) (s : Fin 8) (l : Fin 512) :
    cell (left V c t) s l = scan (rowOf (fun m => k0_pay5 (iblk0 V c 0 t) (iblk0 V c 1 t) (ix2 m l)) s) 128 := by
  have h : Scf.trips (0#32) (Scalar.addi 0#32 32#32) 1#32 = 32 := by decide +kernel
  unfold left
  rw [h, state_cell (hn := le_rfl)]

/-- The body stores the block of mixed values. -/
theorem values (t : Fin cfg0.N) (o : Fin 256) (l : Fin 512) :
    (outsAt0 V c t.val t.isLt).1 (ix3 0 o l) = block V c t (ix2 o l) := by
  by_cases h0 : t.val % 64 = 0
  · rw [outsAt0_A V c t h0]
    frame_out
    pointwise [k0_pay2]
    rfl
  · rw [outsAt0_B V c t h0]
    frame_out
    pointwise [k0_pay2]
    rfl

/-- At the first grid point the running sum is the block's. -/
theorem sum_first (t : Fin cfg0.N) (h0 : t.val % 64 = 0) (o : Fin 256) :
    (outsAt0 V c t.val t.isLt).2.1 (ix2 o 0) = 0 + ∑ l : Fin 512, block V c t (ix2 o l) := by
  rw [outsAt0_A V c t h0]
  frame_out
  pointwise [k0_pay36, k0_pay34]
  rfl

/-- At a later one it is the sum so far and the block's. -/
theorem sum_later (t : Fin cfg0.N) (h0 : ¬t.val % 64 = 0) (o : Fin 256) :
    (outsAt0 V c t.val t.isLt).2.1 (ix2 o 0)
      = (outsAt0 V c (t.val - 1) (Nat.lt_of_le_of_lt (Nat.sub_le _ _) t.isLt)).2.1 (ix2 o 0) + ∑ l : Fin 512, block V c t (ix2 o l) := by
  rw [outsAt0_B V c t h0]
  frame_out
  pointwise [k0_pay36]
  rfl

/-- At the first grid point the running sum of squares is the block's. -/
theorem squares_first (t : Fin cfg0.N) (h0 : t.val % 64 = 0) (o : Fin 256) :
    (outsAt0 V c t.val t.isLt).2.2 (ix2 o 0) = 0 + ∑ l : Fin 512, block V c t (ix2 o l) * block V c t (ix2 o l) := by
  rw [outsAt0_A V c t h0]
  frame_out
  pointwise [k0_pay1, k0_pay37, k0_pay38, k0_pay35]
  rfl

/-- At a later one it is the sum so far and the block's. -/
theorem squares_later (t : Fin cfg0.N) (h0 : ¬t.val % 64 = 0) (o : Fin 256) :
    (outsAt0 V c t.val t.isLt).2.2 (ix2 o 0)
      = (outsAt0 V c (t.val - 1) (Nat.lt_of_le_of_lt (Nat.sub_le _ _) t.isLt)).2.2 (ix2 o 0)
        + ∑ l : Fin 512, block V c t (ix2 o l) * block V c t (ix2 o l) := by
  rw [outsAt0_B V c t h0]
  frame_out
  pointwise [k0_pay1, k0_pay37, k0_pay38]
  rfl

/-- Which block of each array a grid point works on. -/
theorem idx : ∀ t : Fin cfg0.N,
    win0_0.index t = ![t.val / 8, 0, t.val % 8] ∧ win0_1.index t = ![t.val / 8, 0, 0] ∧ win0_2.index t = ![t.val / 8, 0, 0]
    ∧ win0_3.index t = ![t.val / 8, 0, t.val % 8] ∧ win0_4.index t = ![0, 0] ∧ win0_5.index t = ![t.val / 8, 0, t.val % 8] :=
  (by decide +kernel : ∀ t : Fin grid0.N, _)

/-- The batch of a grid point, -/
def batch (t : Fin cfg0.N) : Fin 8 := ⟨t.val / 8, by have : t.val < 64 := t.isLt; omega⟩
/-- and the column of one of its lanes. -/
def column (t : Fin cfg0.N) (l : Fin 512) : Fin 4096 := ⟨512 * (t.val % 8) + l.val, by omega⟩

theorem read0 (t : Fin cfg0.N) (d : Fin 16) (l : Fin 512) : iblk0 V c 0 t (ix3 0 d l) = V c main_v7 (ix3 (batch t) d (column t l)) := by
  blk_simp [iblk0, idx t]
  congr 1
  blk_ext [idx t, batch, column]

theorem read1 (t : Fin cfg0.N) (m : Fin 1024) (d : Fin 16) : iblk0 V c 1 t (ix3 0 m d) = V c main_v9 (ix3 (batch t) m d) := by
  blk_simp [iblk0, idx t]
  congr 1
  blk_ext [idx t, batch]

theorem read2 (t : Fin cfg0.N) (d : Fin 256) (m : Fin 1024) : iblk0 V c 2 t (ix3 0 d m) = V c main_v2 (ix3 (batch t) d m) := by
  blk_simp [iblk0, idx t]
  congr 1
  blk_ext [idx t, batch]

theorem read3 (t : Fin cfg0.N) (d : Fin 128) (l : Fin 512) : iblk0 V c 3 t (ix3 0 d l) = V c main_v1 (ix3 (batch t) d (column t l)) := by
  blk_simp [iblk0, idx t]
  congr 1
  blk_ext [idx t, batch, column]

theorem read4 (t : Fin cfg0.N) (o : Fin 256) (d : Fin 384) : iblk0 V c 4 t (ix2 o d) = V c main_arg4 (ix2 o d) := by
  blk_simp [iblk0, idx t]
  congr 1
  blk_ext [idx t]

/-- The grid points and their lanes, taken as batches and columns. -/
theorem sum_points {M : Type*} [AddCommMonoid M] (f : Fin 8 → Fin 4096 → M) :
    ∑ t : Fin cfg0.N, ∑ l : Fin 512, f (batch t) (column t l) = ∑ b, ∑ n, f b n := by
  let e : Fin cfg0.N × Fin 512 ≃ Fin 8 × Fin 4096 :=
    { toFun := fun p => (batch p.1, column p.1 p.2)
      invFun := fun q => (⟨8 * q.1.val + q.2.val / 512, show _ < 64 by omega⟩, ⟨q.2.val % 512, by omega⟩)
      left_inv := fun p => by
        have : p.1.val < 64 := p.1.isLt
        refine Prod.ext (Fin.ext ?_) (Fin.ext ?_) <;> simp only [batch, column] <;> omega
      right_inv := fun q => by refine Prod.ext (Fin.ext ?_) (Fin.ext ?_) <;> simp only [batch, column] <;> omega }
  rw [← Fintype.sum_prod_type', ← Fintype.sum_prod_type']
  exact Fintype.sum_equiv e _ _ fun _ => rfl

/-- The last grid point. -/
def last : Fin cfg0.N := ⟨63, by decide⟩

/-- The running sum after the last grid point. -/
theorem sum_last (o : Fin 256) :
    (outsAt0 V c last.val last.isLt).2.1 (ix2 o 0) = ∑ t : Fin cfg0.N, ∑ l : Fin 512, block V c t (ix2 o l) :=
  (Pipeline.eq_sum_fin_of_reset_step_apply_last (N := cfg0.N) (fun n h (o : Fin 256) => (outsAt0 V c n h).2.1 (ix2 o 0)) 64
    (fun _ => (0 : EReal)) (fun t o => ∑ l : Fin 512, block V c t (ix2 o l)) (sum_first V c) (sum_later V c) (by decide) last rfl o).trans
    (zero_add _)

/-- The running sum of squares after the last grid point. -/
theorem squares_last (o : Fin 256) :
    (outsAt0 V c last.val last.isLt).2.2 (ix2 o 0) = ∑ t : Fin cfg0.N, ∑ l : Fin 512, block V c t (ix2 o l) * block V c t (ix2 o l) :=
  (Pipeline.eq_sum_fin_of_reset_step_apply_last (N := cfg0.N) (fun n h (o : Fin 256) => (outsAt0 V c n h).2.2 (ix2 o 0)) 64
    (fun _ => (0 : EReal)) (fun t o => ∑ l : Fin 512, block V c t (ix2 o l) * block V c t (ix2 o l)) (squares_first V c)
    (squares_later V c) (by decide) last rfl o).trans (zero_add _)

/-- The grid point that works on a column of a batch, -/
def point (b : Fin 8) (n : Fin 4096) : Fin cfg0.N := ⟨8 * b.val + n.val / 512, show _ < 64 by omega⟩
/-- and the lane it has there. -/
def lane (n : Fin 4096) : Fin 512 := ⟨n.val % 512, by omega⟩

theorem point_column (t : Fin cfg0.N) (l : Fin 512) : point (batch t) (column t l) = t := by
  refine Fin.ext ?_
  simp only [point, batch, column]
  omega

theorem lane_column (t : Fin cfg0.N) (l : Fin 512) : lane (column t l) = l := by
  refine Fin.ext ?_
  simp only [lane, column]
  omega

theorem batch_point (b : Fin 8) (n : Fin 4096) : batch (point b n) = b := by
  refine Fin.ext ?_
  simp only [point, batch]
  omega

theorem column_point (b : Fin 8) (n : Fin 4096) : column (point b n) (lane n) = n := by
  refine Fin.ext ?_
  simp only [point, column, lane]
  omega

/-- The array of values after the region: each from its grid point's block. -/
theorem array_values :
    (dat0 V c).arrAt 5 cfg0.N = fun j : S8x256x4096.Idx => block V c (point (j 0) (j 2)) (ix2 (j 1) (lane (j 2))) := by
  refine (dat0 V c).arrAt_eq_of_covers 5 _ (by decide +kernel) fun t hf y => ?_
  have e : (win0_5.blk t).view.emb y = ix3 (batch t) (y 1) (column t (y 2)) := by
    blk_ext [idx t, batch, column]
  have ey : (y : S1x256x512.Idx) = ix3 0 (y 1) (y 2) := by
    blk_ext
  blk_simp
  rw [after0_5]
  refine (congrArg (outsAt0 V c t.val t.isLt).1 ey).trans ((values V c t (y 1) (y 2)).trans ?_)
  show _ = (fun j : S8x256x4096.Idx => block V c (point (j 0) (j 2)) (ix2 (j 1) (lane (j 2)))) ((win0_5.blk t).view.emb y)
  rw [e]
  exact (congrArg₂ (fun p l => block V c p (ix2 (y 1 : Fin 256) l)) (point_column t (y 2)) (lane_column t (y 2))).symm

/-- The array of sums after the region. -/
theorem array_sum : (dat0 V c).arrAt 6 cfg0.N = fun j : S256x1.Idx => ∑ t : Fin cfg0.N, ∑ l : Fin 512, block V c t (ix2 (j 0) l) := by
  refine (dat0 V c).arrAt_eq_of_after_last 6 last (by decide +kernel) _ fun j => ?_
  blk_simp
  rw [after0_6]
  refine Eq.trans ?_ (sum_last V c (j 0))
  congr 1
  blk_ext

/-- The array of sums of squares after the region. -/
theorem array_squares : (dat0 V c).arrAt 7 cfg0.N
    = fun j : S256x1.Idx => ∑ t : Fin cfg0.N, ∑ l : Fin 512, block V c t (ix2 (j 0) l) * block V c t (ix2 (j 0) l) := by
  refine (dat0 V c).arrAt_eq_of_after_last 7 last (by decide +kernel) _ fun j => ?_
  blk_simp
  rw [after0_7]
  refine Eq.trans ?_ (squares_last V c (j 0))
  congr 1
  blk_ext

section Values

variable {u : Fin 8 → Fin 4096 → Fin 11 → ℝ} {k : Fin 8 → Fin 1024 → Fin 11 → ℝ} {f : Fin 8 → Fin 256 → Fin 1024 → EReal}
  {g : Fin 8 → Fin 128 → Fin 4096 → EReal} {w : Fin 256 → Fin 384 → EReal} {i : Fin 8 → Fin 4096 → Fin 3 → Fin 1024}
  (h0 : ∀ b d n, V c main_v7 (ix3 b d n) = ((padded (u b n) d : ℝ) : EReal))
  (h1 : ∀ b m d, V c main_v9 (ix3 b m d) = ((padded (k b m) d : ℝ) : EReal))
  (h2 : ∀ b d m, V c main_v2 (ix3 b d m) = f b d m) (h3 : ∀ b d n, V c main_v1 (ix3 b d n) = g b d n)
  (h4 : ∀ o d, V c main_arg4 (ix2 o d) = w o d)
  (hi : ∀ b n, Least (fun m => ((sqDist (u b n) (k b m) : ℝ) : EReal)) (i b n))
include h0 h1 h2 h3 h4 hi

/-- A value of a block: the interpolated features of its column and the column's own, mixed. -/
theorem block_value (t : Fin cfg0.N) (o : Fin 256) (l : Fin 512) :
    block V c t (ix2 o l) = mixed (w o) (fun d => blend (f (batch t) d) (fun m => sqDist (u (batch t) (column t l)) (k (batch t) m))
      (i (batch t) (column t l))) (fun d => g (batch t) d (column t l)) :=
  y1_apply (left V c t) (iblk0 V c 0 t) (iblk0 V c 1 t) (iblk0 V c 2 t) (iblk0 V c 3 t) (iblk0 V c 4 t) l o
    (u (batch t) (column t l)) (k (batch t)) (f (batch t)) (fun d => g (batch t) d (column t l)) (w o) (fun s => left_cell V c t s l)
    (fun d => (read0 V c t d l).trans (h0 _ _ _)) (fun m d => (read1 V c t m d).trans (h1 _ _ _)) (fun d m => (read2 V c t d m).trans (h2 _ _ _))
    (fun d => (read3 V c t d l).trans (h3 _ _ _)) (fun d => (read4 V c t o d).trans (h4 _ _)) (hi _ _)

/-- The array of values, -/
theorem values_eq (b : Fin 8) (o : Fin 256) (n : Fin 4096) :
    (dat0 V c).arrAt 5 cfg0.N (ix3 b o n)
      = mixed (w o) (fun d => blend (f b d) (fun m => sqDist (u b n) (k b m)) (i b n)) (fun d => g b d n) := by
  rw [array_values]
  refine (block_value V c h0 h1 h2 h3 h4 hi (point b n) o (lane n)).trans ?_
  rw [batch_point, column_point]

/-- the array of their sums, -/
theorem sum_eq (o : Fin 256) :
    (dat0 V c).arrAt 6 cfg0.N (ix2 o 0)
      = ∑ b, ∑ n, mixed (w o) (fun d => blend (f b d) (fun m => sqDist (u b n) (k b m)) (i b n)) (fun d => g b d n) := by
  rw [array_sum]
  show ∑ t : Fin cfg0.N, ∑ l : Fin 512, block V c t (ix2 o l) = _
  simp only [block_value V c h0 h1 h2 h3 h4 hi]
  rw [sum_points fun b n => mixed (w o) (fun d => blend (f b d) (fun m => sqDist (u b n) (k b m)) (i b n)) (fun d => g b d n)]

/-- and the array of the sums of their squares. -/
theorem squares_eq (o : Fin 256) :
    (dat0 V c).arrAt 7 cfg0.N (ix2 o 0)
      = ∑ b, ∑ n, mixed (w o) (fun d => blend (f b d) (fun m => sqDist (u b n) (k b m)) (i b n)) (fun d => g b d n)
          * mixed (w o) (fun d => blend (f b d) (fun m => sqDist (u b n) (k b m)) (i b n)) (fun d => g b d n) := by
  rw [array_squares]
  show ∑ t : Fin cfg0.N, ∑ l : Fin 512, block V c t (ix2 o l) * block V c t (ix2 o l) = _
  simp only [block_value V c h0 h1 h2 h3 h4 hi]
  rw [sum_points fun b n => mixed (w o) (fun d => blend (f b d) (fun m => sqDist (u b n) (k b m)) (i b n)) (fun d => g b d n)
    * mixed (w o) (fun d => blend (f b d) (fun m => sqDist (u b n) (k b m)) (i b n)) (fun d => g b d n)]

end Values

end Cert.KernelIdeal.First

end

end
-- ==== Proof.Norm.lean ====
/-
  Batch normalization as the kernel computes it, from the two running sums, is batch normalization.
-/
module

public import proofs.«01_k».proof.Proof.Spec

@[expose] public section

set_option maxRecDepth 16384

noncomputable section

open Idealize.ShloMosaic Idealize.ShloMosaic.TcCoe Idealize.SL.Sem

namespace Cert.Norm

open Cert.Spec

section Reals

/-- The mean of reals, -/
def mean (y : Fin 8 → Fin 4096 → ℝ) : ℝ := (∑ b, ∑ n, y b n) / 32768

/-- and their variance. -/
def moment (y : Fin 8 → Fin 4096 → ℝ) : ℝ := (∑ b, ∑ n, (y b n - mean y) * (y b n - mean y)) / 32768

theorem moment_nonneg (y : Fin 8 → Fin 4096 → ℝ) : 0 ≤ moment y :=
  div_nonneg (Finset.sum_nonneg fun _ _ => Finset.sum_nonneg fun _ _ => mul_self_nonneg _) (by norm_num)

/-- The mean of the squares less the square of the mean is the variance. -/
theorem moment_eq (y : Fin 8 → Fin 4096 → ℝ) : (∑ b, ∑ n, y b n * y b n) / 32768 - mean y * mean y = moment y := by
  have h : ∀ b n, (y b n - mean y) * (y b n - mean y) = y b n * y b n - 2 * mean y * y b n + mean y * mean y := fun b n => by ring
  have hm : ∑ b, ∑ n, y b n = 32768 * mean y := by unfold mean; ring
  unfold moment
  simp only [h, Finset.sum_add_distrib, Finset.sum_sub_distrib, ← Finset.mul_sum, hm]
  simp
  ring

theorem dev_pos (y : Fin 8 → Fin 4096 → ℝ) : 0 < Real.sqrt (moment y + Consts.eps) :=
  Real.sqrt_pos.mpr (add_pos_of_nonneg_of_pos (moment_nonneg y) Consts.eps_pos)

theorem average_real (y : Fin 8 → Fin 4096 → ℝ) : average (fun b n => (y b n : EReal)) = (mean y : EReal) := by
  unfold average mean
  simp only [Consts.sum_real]
  exact Consts.div_real _ (by norm_num)

theorem variance_real (y : Fin 8 → Fin 4096 → ℝ) : variance (fun b n => (y b n : EReal)) = (moment y : EReal) := by
  unfold variance moment
  simp only [average_real, ← EReal.coe_sub, ← EReal.coe_mul, Consts.sum_real]
  exact Consts.div_real _ (by norm_num)

theorem scaled_real (y : Fin 8 → Fin 4096 → ℝ) (g : ℝ) (b : Fin 8) (n : Fin 4096) :
    scaled (fun b n => (y b n : EReal)) g b n = (((y b n - mean y) / Real.sqrt (moment y + Consts.eps) * g : ℝ) : EReal) := by
  unfold scaled
  rw [average_real, variance_real, ← EReal.coe_add, Consts.sqrt_real (add_nonneg (moment_nonneg y) Consts.eps_pos.le), ← EReal.coe_sub,
    Consts.div_real _ (dev_pos y).ne', ← EReal.coe_mul]

end Reals

/-- An extended real that is not real. -/
def Endless (a : EReal) : Prop := a = ⊤ ∨ a = ⊥

theorem Endless.add_left {a : EReal} (h : Endless a) (b : EReal) : Endless (a + b) := by
  rcases h with rfl | rfl
  · induction b <;> simp [Endless]
  · exact Or.inr (EReal.bot_add b)

theorem Endless.add_right {b : EReal} (h : Endless b) (a : EReal) : Endless (a + b) := by
  rw [add_comm]; exact h.add_left a

theorem Endless.neg {a : EReal} (h : Endless a) : Endless (-a) := by
  rcases h with rfl | rfl <;> simp [Endless]

theorem Endless.mul_self {a : EReal} (h : Endless a) : a * a = ⊤ := by
  rcases h with rfl | rfl <;> simp

theorem mul_self_nonneg (a : EReal) : 0 ≤ a * a := by
  induction a with
  | bot => simp
  | top => simp
  | coe r => rw [← EReal.coe_mul]; exact EReal.coe_nonneg.mpr (_root_.mul_self_nonneg r)

/-- A sum one of whose terms is not real is not real. -/
theorem Endless.sum {ι : Type} {s : Finset ι} {f : ι → EReal} {i : ι} (hi : i ∈ s) (h : Endless (f i)) : Endless (∑ j ∈ s, f j) := by
  classical
  rw [← Finset.add_sum_erase s f hi]
  exact h.add_left _

/-- A sum of squares one of which is infinite is infinite. -/
theorem sum_squares_top {f : Fin 8 → Fin 4096 → EReal} {b : Fin 8} {n : Fin 4096} (h : Endless (f b n)) :
    ∑ b, ∑ n, f b n * f b n = ⊤ := by
  have h1 : ∑ n, f b n * f b n = ⊤ := top_le_iff.mp (h.mul_self ▸
    Finset.single_le_sum (f := fun n => f b n * f b n) (fun n _ => mul_self_nonneg _) (Finset.mem_univ n))
  exact top_le_iff.mp (h1 ▸ Finset.single_le_sum (f := fun b => ∑ n, f b n * f b n)
    (fun b _ => Finset.sum_nonneg fun n _ => mul_self_nonneg _) (Finset.mem_univ b))

/-- Something that is not real divided by the number of columns. -/
theorem Endless.div_points {a : EReal} (h : Endless a) : Ideal.div a ((32768 : ℝ) : EReal) = a := by
  have hN : ((32768 : ℝ) : EReal) ≠ 0 := by exact_mod_cast (by norm_num : (32768 : ℝ) ≠ 0)
  have hp : (0 : ℝ) < (32768 : ℝ)⁻¹ := by norm_num
  rw [Ideal.div, if_neg hN, ← EReal.coe_inv]
  rcases h with rfl | rfl
  · exact EReal.top_mul_coe_of_pos hp
  · exact EReal.bot_mul_coe_of_pos hp

/-- Anything divided by an infinite root is nothing. -/
theorem div_endless (a : EReal) {b : EReal} (h : Endless b) : Ideal.div a b = 0 := by
  rcases h with rfl | rfl <;> simp [Ideal.div]

/-- Where one value is not real, what is normalized and scaled is zero. -/
theorem scaled_endless {y : Fin 8 → Fin 4096 → EReal} {b' : Fin 8} {n' : Fin 4096} (h : Endless (y b' n')) (g : ℝ) (b : Fin 8) (n : Fin 4096) :
    scaled y g b n = 0 := by
  have hs : Endless (∑ b, ∑ n, y b n) := Endless.sum (Finset.mem_univ b') (Endless.sum (Finset.mem_univ n') h)
  have ha : Endless (average y) := by unfold average; rw [hs.div_points]; exact hs
  have hv : variance y = ⊤ := by
    unfold variance
    rw [sum_squares_top (f := fun b n => y b n - average y) (b := b') (n := n') (by rw [sub_eq_add_neg]; exact ha.neg.add_right _)]
    exact Endless.div_points (Or.inl rfl)
  unfold scaled
  rw [hv, EReal.top_add_coe, div_endless _ (show Endless (Ideal.sqrt ⊤) from Or.inl rfl), zero_mul]

/-- A real added to the difference of anything and a real. -/
theorem add_sub_real (a r : ℝ) (h : EReal) : (a : EReal) + (h - (r : EReal)) = ((a - r : ℝ) : EReal) + h := by
  rw [EReal.coe_sub, sub_eq_add_neg, sub_eq_add_neg, add_comm h, add_assoc]

/-- The kernel's scale and shift, from the sum and the sum of squares, applied to a value: the value normalized, scaled and shifted. -/
theorem from_sums (y : Fin 8 → Fin 4096 → EReal) (g : ℝ) (h : EReal) (b : Fin 8) (n : Fin 4096) {s q : EReal}
    (hs : s = ∑ b, ∑ n, y b n) (hq : q = ∑ b, ∑ n, y b n * y b n) :
    y b n * Ideal.div (g : EReal) (Ideal.sqrt (Ideal.div q (Ideal.ofBits .f32 0x47000000#32)
          - Ideal.div s (Ideal.ofBits .f32 0x47000000#32) * Ideal.div s (Ideal.ofBits .f32 0x47000000#32) + Ideal.ofBits .f32 0x3727C5AC#32))
        + (h - Ideal.div s (Ideal.ofBits .f32 0x47000000#32) * Ideal.div (g : EReal) (Ideal.sqrt (Ideal.div q (Ideal.ofBits .f32 0x47000000#32)
          - Ideal.div s (Ideal.ofBits .f32 0x47000000#32) * Ideal.div s (Ideal.ofBits .f32 0x47000000#32) + Ideal.ofBits .f32 0x3727C5AC#32)))
      = scaled y g b n + h := by
  subst hs hq
  rw [Consts.points, Consts.eps_eq]
  by_cases hr : ∀ b n, y b n = ((y b n).toReal : EReal)
  · have hN : (32768 : ℝ) ≠ 0 := by norm_num
    obtain ⟨z, rfl⟩ : ∃ z : Fin 8 → Fin 4096 → ℝ, y = fun b n => (z b n : EReal) := ⟨fun b n => (y b n).toReal, funext fun b => funext fun n => hr b n⟩
    have hv : 0 ≤ moment z + Consts.eps := add_nonneg (moment_nonneg z) Consts.eps_pos.le
    have hd : Real.sqrt (moment z + Consts.eps) ≠ 0 := (dev_pos z).ne'
    rw [scaled_real]
    simp only [← EReal.coe_mul, Consts.sum_real]
    rw [Consts.div_real _ hN, Consts.div_real _ hN, ← EReal.coe_mul, ← EReal.coe_sub]
    have := moment_eq z
    unfold mean at this
    rw [this, ← EReal.coe_add, Consts.sqrt_real hv, Consts.div_real _ hd, ← EReal.coe_mul, ← EReal.coe_mul, add_sub_real]
    congr 2
    unfold mean
    field_simp
  · simp only [not_forall] at hr
    obtain ⟨b', n', hr⟩ := hr
    have hy : Endless (y b' n') := by
      by_contra hn
      exact hr (EReal.coe_toReal (fun e => hn (Or.inl e)) (fun e => hn (Or.inr e))).symm
    have hs : Endless (∑ b, ∑ n, y b n) := Endless.sum (Finset.mem_univ b') (Endless.sum (Finset.mem_univ n') hy)
    have hz : ∀ a : EReal, Ideal.div (g : EReal) (Ideal.sqrt (⊤ - ⊤ + a)) = 0 := fun a => by
      rw [show (⊤ : EReal) - ⊤ = ⊥ from rfl, EReal.bot_add]
      exact div_endless _ (Or.inr rfl)
    rw [scaled_endless hy, sum_squares_top hy, hs.div_points, hs.mul_self, Endless.div_points (Or.inl rfl), hz, mul_zero, mul_zero,
      sub_zero]

/-- The same with the threshold at zero. -/
theorem from_sums_max (y : Fin 8 → Fin 4096 → EReal) (g : ℝ) (h : EReal) (b : Fin 8) (n : Fin 4096) {s q : EReal}
    (hs : s = ∑ b, ∑ n, y b n) (hq : q = ∑ b, ∑ n, y b n * y b n) :
    max (y b n * Ideal.div (g : EReal) (Ideal.sqrt (Ideal.div q (Ideal.ofBits .f32 0x47000000#32)
          - Ideal.div s (Ideal.ofBits .f32 0x47000000#32) * Ideal.div s (Ideal.ofBits .f32 0x47000000#32) + Ideal.ofBits .f32 0x3727C5AC#32))
        + (h - Ideal.div s (Ideal.ofBits .f32 0x47000000#32) * Ideal.div (g : EReal) (Ideal.sqrt (Ideal.div q (Ideal.ofBits .f32 0x47000000#32)
          - Ideal.div s (Ideal.ofBits .f32 0x47000000#32) * Ideal.div s (Ideal.ofBits .f32 0x47000000#32) + Ideal.ofBits .f32 0x3727C5AC#32)))) 0
      = normed y g h b n := by
  rw [from_sums y g h b n hs hq]
  rfl

end Cert.Norm

end

end
-- ==== Proof.Second.lean ====
/-
  The second region: the normalized values of the first mixing, mixed again; the array of the new values, and its
  two running sums.
-/
module

public import proofs.«01_k».proof.Proof.Norm
public import proofs.«01_k».proof.Proof.Gen.KernelIdeal.Frame
public import proofs.«01_k».proof.Proof.Consts
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Second

open Cert.KernelIdeal.Gen Cert.Spec

variable (V : (c : Dev nD) → (b : Ref sig .tc) → Buf (Elt Ideal) ((c : Thread nD τ).loc b)) (c : Dev nD)

/-- The block of mixed values of a grid point. -/
def block (t : Fin cfg1.N) : FVec Ideal S256x1024 .f32 :=
  k1_pay4 (iblk1 V c 1 t) (iblk1 V c 2 t) (iblk1 V c 3 t) (iblk1 V c 4 t) (iblk1 V c 0 t) (iblk1 V c 5 t)

/-- The body stores the block of mixed values. -/
theorem values (t : Fin cfg1.N) (o : Fin 256) (l : Fin 1024) :
    (outsAt1 V c t.val t.isLt).1 (ix3 0 o l) = block V c t (ix2 o l) := by
  by_cases h0 : t.val % 32 = 0
  · rw [outsAt1_A V c t h0]
    frame_out
    pointwise [k1_pay3]
    rfl
  · rw [outsAt1_B V c t h0]
    frame_out
    pointwise [k1_pay3]
    rfl

/-- At the first grid point the running sum is the block's. -/
theorem sum_first (t : Fin cfg1.N) (h0 : t.val % 32 = 0) (o : Fin 256) :
    (outsAt1 V c t.val t.isLt).2.1 (ix2 o 0) = 0 + ∑ l : Fin 1024, block V c t (ix2 o l) := by
  rw [outsAt1_A V c t h0]
  frame_out
  pointwise [k1_pay1, k1_pay5]
  rfl

/-- At a later one it is the sum so far and the block's. -/
theorem sum_later (t : Fin cfg1.N) (h0 : ¬t.val % 32 = 0) (o : Fin 256) :
    (outsAt1 V c t.val t.isLt).2.1 (ix2 o 0)
      = (outsAt1 V c (t.val - 1) (Nat.lt_of_le_of_lt (Nat.sub_le _ _) t.isLt)).2.1 (ix2 o 0) + ∑ l : Fin 1024, block V c t (ix2 o l) := by
  rw [outsAt1_B V c t h0]
  frame_out
  pointwise [k1_pay1]
  rfl

/-- At the first grid point the running sum of squares is the block's. -/
theorem squares_first (t : Fin cfg1.N) (h0 : t.val % 32 = 0) (o : Fin 256) :
    (outsAt1 V c t.val t.isLt).2.2 (ix2 o 0) = 0 + ∑ l : Fin 1024, block V c t (ix2 o l) * block V c t (ix2 o l) := by
  rw [outsAt1_A V c t h0]
  frame_out
  pointwise [k1_pay2, k1_pay6]
  rfl

/-- At a later one it is the sum so far and the block's. -/
theorem squares_later (t : Fin cfg1.N) (h0 : ¬t.val % 32 = 0) (o : Fin 256) :
    (outsAt1 V c t.val t.isLt).2.2 (ix2 o 0)
      = (outsAt1 V c (t.val - 1) (Nat.lt_of_le_of_lt (Nat.sub_le _ _) t.isLt)).2.2 (ix2 o 0)
        + ∑ l : Fin 1024, block V c t (ix2 o l) * block V c t (ix2 o l) := by
  rw [outsAt1_B V c t h0]
  frame_out
  pointwise [k1_pay2]
  rfl

/-- Which block of each array a grid point works on. -/
theorem idx : ∀ t : Fin cfg1.N,
    win1_0.index t = ![t.val / 4, 0, t.val % 4] ∧ win1_1.index t = ![0, 0] ∧ win1_2.index t = ![0, 0]
    ∧ win1_3.index t = ![0, 0] ∧ win1_4.index t = ![0, 0] ∧ win1_5.index t = ![0, 0] ∧ win1_6.index t = ![t.val / 4, 0, t.val % 4] :=
  (by decide +kernel : ∀ t : Fin grid1.N, _)

/-- The batch of a grid point, -/
def batch (t : Fin cfg1.N) : Fin 8 := ⟨t.val / 4, by have : t.val < 32 := t.isLt; omega⟩
/-- and the column of one of its lanes. -/
def column (t : Fin cfg1.N) (l : Fin 1024) : Fin 4096 := ⟨1024 * (t.val % 4) + l.val, by omega⟩
/-- The grid point that works on a column of a batch, -/
def point (b : Fin 8) (n : Fin 4096) : Fin cfg1.N := ⟨4 * b.val + n.val / 1024, show _ < 32 by omega⟩
/-- and the lane it has there. -/
def lane (n : Fin 4096) : Fin 1024 := ⟨n.val % 1024, by omega⟩

theorem point_column (t : Fin cfg1.N) (l : Fin 1024) : point (batch t) (column t l) = t := by
  refine Fin.ext ?_
  simp only [point, batch, column]
  omega

theorem lane_column (t : Fin cfg1.N) (l : Fin 1024) : lane (column t l) = l := by
  refine Fin.ext ?_
  simp only [lane, column]
  omega

theorem batch_point (b : Fin 8) (n : Fin 4096) : batch (point b n) = b := by
  refine Fin.ext ?_
  simp only [point, batch]
  omega

theorem column_point (b : Fin 8) (n : Fin 4096) : column (point b n) (lane n) = n := by
  refine Fin.ext ?_
  simp only [point, column, lane]
  omega

/-- The grid points and their lanes, taken as batches and columns. -/
theorem sum_points {M : Type*} [AddCommMonoid M] (f : Fin 8 → Fin 4096 → M) :
    ∑ t : Fin cfg1.N, ∑ l : Fin 1024, f (batch t) (column t l) = ∑ b, ∑ n, f b n := by
  let e : Fin cfg1.N × Fin 1024 ≃ Fin 8 × Fin 4096 :=
    { toFun := fun p => (batch p.1, column p.1 p.2)
      invFun := fun q => (point q.1 q.2, lane q.2)
      left_inv := fun p => Prod.ext (point_column p.1 p.2) (lane_column p.1 p.2)
      right_inv := fun q => Prod.ext (batch_point q.1 q.2) (column_point q.1 q.2) }
  rw [← Fintype.sum_prod_type', ← Fintype.sum_prod_type']
  exact Fintype.sum_equiv e _ _ fun _ => rfl

theorem read0 (t : Fin cfg1.N) (o : Fin 256) (l : Fin 1024) : iblk1 V c 0 t (ix3 0 o l) = V c main_v10_0 (ix3 (batch t) o (column t l)) := by
  blk_simp [iblk1, idx t]
  congr 1
  blk_ext [idx t, batch, column]

theorem read1 (t : Fin cfg1.N) (o : Fin 256) : iblk1 V c 1 t (ix2 o 0) = V c main_v10_1 (ix2 o 0) := by
  blk_simp [iblk1, idx t]
  congr 1
  blk_ext [idx t]

theorem read2 (t : Fin cfg1.N) (o : Fin 256) : iblk1 V c 2 t (ix2 o 0) = V c main_v10_2 (ix2 o 0) := by
  blk_simp [iblk1, idx t]
  congr 1
  blk_ext [idx t]

theorem read3 (t : Fin cfg1.N) (o : Fin 256) : iblk1 V c 3 t (ix2 o 0) = V c main_v11 (ix2 o 0) := by
  blk_simp [iblk1, idx t]
  congr 1
  blk_ext [idx t]

theorem read4 (t : Fin cfg1.N) (o : Fin 256) : iblk1 V c 4 t (ix2 o 0) = V c main_v12 (ix2 o 0) := by
  blk_simp [iblk1, idx t]
  congr 1
  blk_ext [idx t]

theorem read5 (t : Fin cfg1.N) (o d : Fin 256) : iblk1 V c 5 t (ix2 o d) = V c main_arg7 (ix2 o d) := by
  blk_simp [iblk1, idx t]
  congr 1
  blk_ext [idx t]

/-- The last grid point. -/
def last : Fin cfg1.N := ⟨31, by decide⟩

/-- The running sum after the last grid point. -/
theorem sum_last (o : Fin 256) :
    (outsAt1 V c last.val last.isLt).2.1 (ix2 o 0) = ∑ t : Fin cfg1.N, ∑ l : Fin 1024, block V c t (ix2 o l) :=
  (Pipeline.eq_sum_fin_of_reset_step_apply_last (N := cfg1.N) (fun n h (o : Fin 256) => (outsAt1 V c n h).2.1 (ix2 o 0)) 32
    (fun _ => (0 : EReal)) (fun t o => ∑ l : Fin 1024, block V c t (ix2 o l)) (sum_first V c) (sum_later V c) (by decide) last rfl o).trans
    (zero_add _)

/-- The running sum of squares after the last grid point. -/
theorem squares_last (o : Fin 256) :
    (outsAt1 V c last.val last.isLt).2.2 (ix2 o 0) = ∑ t : Fin cfg1.N, ∑ l : Fin 1024, block V c t (ix2 o l) * block V c t (ix2 o l) :=
  (Pipeline.eq_sum_fin_of_reset_step_apply_last (N := cfg1.N) (fun n h (o : Fin 256) => (outsAt1 V c n h).2.2 (ix2 o 0)) 32
    (fun _ => (0 : EReal)) (fun t o => ∑ l : Fin 1024, block V c t (ix2 o l) * block V c t (ix2 o l)) (squares_first V c)
    (squares_later V c) (by decide) last rfl o).trans (zero_add _)

/-- The array of values after the region: each from its grid point's block. -/
theorem array_values :
    (dat1 V c).arrAt 6 cfg1.N = fun j : S8x256x4096.Idx => block V c (point (j 0) (j 2)) (ix2 (j 1) (lane (j 2))) := by
  refine (dat1 V c).arrAt_eq_of_covers 6 _ (by decide +kernel) fun t hf y => ?_
  have e : (win1_6.blk t).view.emb y = ix3 (batch t) (y 1) (column t (y 2)) := by
    blk_ext [idx t, batch, column]
  have ey : (y : S1x256x1024.Idx) = ix3 0 (y 1) (y 2) := by
    blk_ext
  blk_simp
  rw [after1_6]
  refine (congrArg (outsAt1 V c t.val t.isLt).1 ey).trans ((values V c t (y 1) (y 2)).trans ?_)
  show _ = (fun j : S8x256x4096.Idx => block V c (point (j 0) (j 2)) (ix2 (j 1) (lane (j 2)))) ((win1_6.blk t).view.emb y)
  rw [e]
  exact (congrArg₂ (fun p l => block V c p (ix2 (y 1 : Fin 256) l)) (point_column t (y 2)) (lane_column t (y 2))).symm

/-- The array of sums after the region. -/
theorem array_sum : (dat1 V c).arrAt 7 cfg1.N = fun j : S256x1.Idx => ∑ t : Fin cfg1.N, ∑ l : Fin 1024, block V c t (ix2 (j 0) l) := by
  refine (dat1 V c).arrAt_eq_of_after_last 7 last (by decide +kernel) _ fun j => ?_
  blk_simp
  rw [after1_7]
  refine Eq.trans ?_ (sum_last V c (j 0))
  congr 1
  blk_ext

/-- The array of sums of squares after the region. -/
theorem array_squares : (dat1 V c).arrAt 8 cfg1.N
    = fun j : S256x1.Idx => ∑ t : Fin cfg1.N, ∑ l : Fin 1024, block V c t (ix2 (j 0) l) * block V c t (ix2 (j 0) l) := by
  refine (dat1 V c).arrAt_eq_of_after_last 8 last (by decide +kernel) _ fun j => ?_
  blk_simp
  rw [after1_8]
  refine Eq.trans ?_ (squares_last V c (j 0))
  congr 1
  blk_ext

section Values

variable {y : Fin 256 → Fin 8 → Fin 4096 → EReal} {g : Fin 256 → ℝ} {h : Fin 256 → EReal} {w : Fin 256 → Fin 256 → EReal}
  (hy : ∀ b o n, V c main_v10_0 (ix3 b o n) = y o b n)
  (hs : ∀ o, V c main_v10_1 (ix2 o 0) = ∑ b, ∑ n, y o b n)
  (hq : ∀ o, V c main_v10_2 (ix2 o 0) = ∑ b, ∑ n, y o b n * y o b n)
  (hg : ∀ o, V c main_v11 (ix2 o 0) = (g o : EReal)) (hh : ∀ o, V c main_v12 (ix2 o 0) = h o)
  (hw : ∀ o d, V c main_arg7 (ix2 o d) = w o d)
include hy hs hq hg hh hw

/-- A value of a block: the normalized values of its column, mixed. -/
theorem block_value (t : Fin cfg1.N) (o : Fin 256) (l : Fin 1024) :
    block V c t (ix2 o l) = ∑ d, w o d * normed (y d) (g d) (h d) (batch t) (column t l) := by
  unfold block
  pointwise [k1_pay4]
  simp only [read0, read1 V c, read2 V c, read3 V c, read4 V c, read5 V c, hy, hg, hh, hw]
  refine Finset.sum_congr rfl fun d _ => ?_
  exact congrArg _ (Norm.from_sums_max (y d) (g d) (h d) (batch t) (column t l) (hs d) (hq d))

/-- The array of values, -/
theorem values_eq (b : Fin 8) (o : Fin 256) (n : Fin 4096) :
    (dat1 V c).arrAt 6 cfg1.N (ix3 b o n) = ∑ d, w o d * normed (y d) (g d) (h d) b n := by
  rw [array_values]
  refine (block_value V c hy hs hq hg hh hw (point b n) o (lane n)).trans ?_
  rw [batch_point, column_point]

/-- the array of their sums, -/
theorem sum_eq (o : Fin 256) :
    (dat1 V c).arrAt 7 cfg1.N (ix2 o 0) = ∑ b, ∑ n, ∑ d, w o d * normed (y d) (g d) (h d) b n := by
  rw [array_sum]
  show ∑ t : Fin cfg1.N, ∑ l : Fin 1024, block V c t (ix2 o l) = _
  simp only [block_value V c hy hs hq hg hh hw]
  rw [sum_points fun b n => ∑ d, w o d * normed (y d) (g d) (h d) b n]

/-- and the array of the sums of their squares. -/
theorem squares_eq (o : Fin 256) :
    (dat1 V c).arrAt 8 cfg1.N (ix2 o 0)
      = ∑ b, ∑ n, (∑ d, w o d * normed (y d) (g d) (h d) b n) * (∑ d, w o d * normed (y d) (g d) (h d) b n) := by
  rw [array_squares]
  show ∑ t : Fin cfg1.N, ∑ l : Fin 1024, block V c t (ix2 o l) * block V c t (ix2 o l) = _
  simp only [block_value V c hy hs hq hg hh hw]
  rw [sum_points fun b n => (∑ d, w o d * normed (y d) (g d) (h d) b n) * (∑ d, w o d * normed (y d) (g d) (h d) b n)]

end Values

end Cert.KernelIdeal.Second

end

end
-- ==== Proof.Third.lean ====
/-
  The third region: the normalized values of the second mixing.
-/
module

public import proofs.«01_k».proof.Proof.Norm
public import proofs.«01_k».proof.Proof.Gen.KernelIdeal.Frame
public import proofs.«01_k».proof.Proof.Consts
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Third

open Cert.KernelIdeal.Gen Cert.Spec

variable (V : (c : Dev nD) → (b : Ref sig .tc) → Buf (Elt Ideal) ((c : Thread nD τ).loc b)) (c : Dev nD)

/-- What the body stores at a grid point. -/
def block (t : Fin cfg2.N) : FVec Ideal S1x256x1024 .f32 :=
  k2_pay1 (iblk2 V c 1 t) (iblk2 V c 2 t) (iblk2 V c 3 t) (iblk2 V c 4 t) (iblk2 V c 0 t)

/-- Which block of each array a grid point works on. -/
theorem idx : ∀ t : Fin cfg2.N,
    win2_0.index t = ![t.val / 4, 0, t.val % 4] ∧ win2_1.index t = ![0, 0] ∧ win2_2.index t = ![0, 0]
    ∧ win2_3.index t = ![0, 0] ∧ win2_4.index t = ![0, 0] ∧ win2_5.index t = ![t.val / 4, 0, t.val % 4] :=
  (by decide +kernel : ∀ t : Fin grid2.N, _)

/-- The batch of a grid point, -/
def batch (t : Fin cfg2.N) : Fin 8 := ⟨t.val / 4, by have : t.val < 32 := t.isLt; omega⟩
/-- and the column of one of its lanes. -/
def column (t : Fin cfg2.N) (l : Fin 1024) : Fin 4096 := ⟨1024 * (t.val % 4) + l.val, by omega⟩
/-- The grid point that works on a column of a batch, -/
def point (b : Fin 8) (n : Fin 4096) : Fin cfg2.N := ⟨4 * b.val + n.val / 1024, show _ < 32 by omega⟩
/-- and the lane it has there. -/
def lane (n : Fin 4096) : Fin 1024 := ⟨n.val % 1024, by omega⟩

theorem point_column (t : Fin cfg2.N) (l : Fin 1024) : point (batch t) (column t l) = t := by
  refine Fin.ext ?_
  simp only [point, batch, column]
  omega

theorem lane_column (t : Fin cfg2.N) (l : Fin 1024) : lane (column t l) = l := by
  refine Fin.ext ?_
  simp only [lane, column]
  omega

theorem batch_point (b : Fin 8) (n : Fin 4096) : batch (point b n) = b := by
  refine Fin.ext ?_
  simp only [point, batch]
  omega

theorem column_point (b : Fin 8) (n : Fin 4096) : column (point b n) (lane n) = n := by
  refine Fin.ext ?_
  simp only [point, column, lane]
  omega

theorem read0 (t : Fin cfg2.N) (o : Fin 256) (l : Fin 1024) : iblk2 V c 0 t (ix3 0 o l) = V c main_v15_0 (ix3 (batch t) o (column t l)) := by
  blk_simp [iblk2, idx t]
  congr 1
  blk_ext [idx t, batch, column]

theorem read1 (t : Fin cfg2.N) (o : Fin 256) : iblk2 V c 1 t (ix2 o 0) = V c main_v15_1 (ix2 o 0) := by
  blk_simp [iblk2, idx t]
  congr 1
  blk_ext [idx t]

theorem read2 (t : Fin cfg2.N) (o : Fin 256) : iblk2 V c 2 t (ix2 o 0) = V c main_v15_2 (ix2 o 0) := by
  blk_simp [iblk2, idx t]
  congr 1
  blk_ext [idx t]

theorem read3 (t : Fin cfg2.N) (o : Fin 256) : iblk2 V c 3 t (ix2 o 0) = V c main_v13 (ix2 o 0) := by
  blk_simp [iblk2, idx t]
  congr 1
  blk_ext [idx t]

theorem read4 (t : Fin cfg2.N) (o : Fin 256) : iblk2 V c 4 t (ix2 o 0) = V c main_v14 (ix2 o 0) := by
  blk_simp [iblk2, idx t]
  congr 1
  blk_ext [idx t]

/-- The array after the region: each value from its grid point's block. -/
theorem array_values :
    (dat2 V c).arrAt 5 cfg2.N = fun j : S8x256x4096.Idx => block V c (point (j 0) (j 2)) (ix3 0 (j 1) (lane (j 2))) := by
  refine (dat2 V c).arrAt_eq_of_covers 5 _ (by decide +kernel) fun t hf y => ?_
  have e : (win2_5.blk t).view.emb y = ix3 (batch t) (y 1) (column t (y 2)) := by
    blk_ext [idx t, batch, column]
  have ey : (y : S1x256x1024.Idx) = ix3 0 (y 1) (y 2) := by
    blk_ext
  blk_simp
  rw [after2_5]
  frame_out
  show block V c t y = (fun j : S8x256x4096.Idx => block V c (point (j 0) (j 2)) (ix3 0 (j 1) (lane (j 2)))) ((win2_5.blk t).view.emb y)
  rw [e]
  refine (congrArg (block V c t) ey).trans ?_
  exact (congrArg₂ (fun p l => block V c p (ix3 0 (y 1 : Fin 256) l)) (point_column t (y 2)) (lane_column t (y 2))).symm

/-- The array: the values normalized, scaled, shifted and cut off below zero. -/
theorem values_eq {y : Fin 256 → Fin 8 → Fin 4096 → EReal} {g : Fin 256 → ℝ} {h : Fin 256 → EReal}
    (hy : ∀ b o n, V c main_v15_0 (ix3 b o n) = y o b n)
    (hs : ∀ o, V c main_v15_1 (ix2 o 0) = ∑ b, ∑ n, y o b n)
    (hq : ∀ o, V c main_v15_2 (ix2 o 0) = ∑ b, ∑ n, y o b n * y o b n)
    (hg : ∀ o, V c main_v13 (ix2 o 0) = (g o : EReal)) (hh : ∀ o, V c main_v14 (ix2 o 0) = h o)
    (b : Fin 8) (o : Fin 256) (n : Fin 4096) :
    (dat2 V c).arrAt 5 cfg2.N (ix3 b o n) = normed (y o) (g o) (h o) b n := by
  rw [array_values]
  show block V c (point b n) (ix3 0 o (lane n)) = _
  unfold block
  pointwise [k2_pay1]
  simp only [read0, read1 V c, read2 V c, read3 V c, read4 V c, hy, hg, hh, batch_point, column_point]
  exact Norm.from_sums_max (y o) (g o) (h o) b n (hs o) (hq o)

end Cert.KernelIdeal.Third

end

end
-- ==== Proof.Result.lean ====
/-
  The whole result in plain terms: what both programs compute once the three nearest points of every column are known.
-/
module

public import proofs.«01_k».proof.Proof.Spec
public import proofs.«01_k».proof.Proof.TopThree

@[expose] public section

noncomputable section

namespace Cert.Result

open Cert.Spec Cert.TopThree

/-- The arguments: where the points lie and the scales are real, the rest may be infinite. -/
structure Inputs where
  /-- the coordinates of the points to be filled in, -/
  place : Fin 8 → Fin 4096 → Fin 3 → ℝ
  /-- those of the points that are known, -/
  site : Fin 8 → Fin 1024 → Fin 3 → ℝ
  /-- the first eight features of the first, which count as coordinates, -/
  own : Fin 8 → Fin 8 → Fin 4096 → ℝ
  /-- and of the second; -/
  known : Fin 8 → Fin 8 → Fin 1024 → ℝ
  /-- the further features of the first, -/
  further : Fin 8 → Fin 128 → Fin 4096 → EReal
  /-- and of the second, which are interpolated; -/
  given : Fin 8 → Fin 256 → Fin 1024 → EReal
  /-- the first mixing matrix, -/
  mix1 : Fin 256 → Fin 384 → EReal
  /-- its scales -/
  scale1 : Fin 256 → ℝ
  /-- and shifts; -/
  shift1 : Fin 256 → EReal
  /-- the second mixing matrix, -/
  mix2 : Fin 256 → Fin 256 → EReal
  /-- its scales -/
  scale2 : Fin 256 → ℝ
  /-- and shifts. -/
  shift2 : Fin 256 → EReal

variable (x : Inputs)

/-- Where a point to be filled in lies: its coordinates and its first eight features. -/
def Inputs.target (b : Fin 8) (n : Fin 4096) (d : Fin 11) : ℝ :=
  if h : d.val < 3 then x.place b n ⟨d.val, h⟩ else x.own b ⟨d.val - 3, by omega⟩ n

/-- Where a known point lies. -/
def Inputs.source (b : Fin 8) (m : Fin 1024) (d : Fin 11) : ℝ :=
  if h : d.val < 3 then x.site b m ⟨d.val, h⟩ else x.known b ⟨d.val - 3, by omega⟩ m

/-- The squared distance from a point to be filled in to a known one. -/
def Inputs.away (b : Fin 8) (n : Fin 4096) (m : Fin 1024) : ℝ := sqDist (x.target b n) (x.source b m)

/-- `i` names the three nearest known points of every point to be filled in. -/
def Nearest (i : Fin 8 → Fin 4096 → Fin 3 → Fin 1024) : Prop := ∀ b n, Least (fun m => ((x.away b n m : ℝ) : EReal)) (i b n)

variable (i : Fin 8 → Fin 4096 → Fin 3 → Fin 1024)

/-- The values of the first mixing, -/
def Inputs.first (o : Fin 256) (b : Fin 8) (n : Fin 4096) : EReal :=
  mixed (x.mix1 o) (fun d => blend (x.given b d) (x.away b n) (i b n)) (fun d => x.further b d n)

/-- and of the second. -/
def Inputs.second (o : Fin 256) (b : Fin 8) (n : Fin 4096) : EReal :=
  ∑ d, x.mix2 o d * normed (x.first i d) (x.scale1 d) (x.shift1 d) b n

/-- The result: the first eight features, and the values of the second mixing normalized, cut off below zero. -/
def Inputs.result (b : Fin 8) (r : Fin 264) (n : Fin 4096) : EReal :=
  if h : r.val < 8 then (x.own b ⟨r.val, by omega⟩ n : EReal)
  else normed (x.second i ⟨r.val - 8, by omega⟩) (x.scale2 ⟨r.val - 8, by omega⟩) (x.shift2 ⟨r.val - 8, by omega⟩) b n

end Cert.Result

end

end
-- ==== Proof.HostLines.lean ====
/-
  What the host lines around the three regions leave in the regions' input arrays and in the result.
-/
module

public import proofs.«01_k».proof.Proof.First
public import proofs.«01_k».proof.Proof.Second
public import proofs.«01_k».proof.Proof.Third
public import proofs.«01_k».proof.Proof.Result

@[expose] public section

set_option maxRecDepth 16384

noncomputable section

open Idealize.ShloMosaic Idealize.ShloMosaic.TcCoe Idealize.SL.Sem
open Idealize.ShloMosaic.Pipeline (Dat)

namespace Cert.KernelIdeal.HostLines

open Cert.KernelIdeal.Gen Cert.Spec Cert.Result Cert.KernelIdeal.Block

variable (m : (ℓ : Loc nD τ sig) → Buf (Elt Ideal) ℓ) (ρ : Dev nD → PrngReg) (c : Dev nD)

/-- The argument arrays hold the inputs. -/
structure Holds (x : Inputs) : Prop where
  place : ∀ b n d, m ((c : Thread nD τ).loc main_arg0) (ix3 b n d) = (x.place b n d : EReal)
  site : ∀ b k d, m ((c : Thread nD τ).loc main_arg1) (ix3 b k d) = (x.site b k d : EReal)
  own : ∀ b (d : Fin 8) n, m ((c : Thread nD τ).loc main_arg2) (ix3 b ⟨d.val, by omega⟩ n) = (x.own b d n : EReal)
  known : ∀ b (d : Fin 8) k, m ((c : Thread nD τ).loc main_arg3) (ix3 b ⟨d.val, by omega⟩ k) = (x.known b d k : EReal)
  further : ∀ b (d : Fin 128) n, m ((c : Thread nD τ).loc main_arg2) (ix3 b ⟨8 + d.val, by omega⟩ n) = x.further b d n
  given : ∀ b (d : Fin 256) k, m ((c : Thread nD τ).loc main_arg3) (ix3 b ⟨8 + d.val, by omega⟩ k) = x.given b d k
  mix1 : ∀ o d, m ((c : Thread nD τ).loc main_arg4) (ix2 o d) = x.mix1 o d
  scale1 : ∀ o, m ((c : Thread nD τ).loc main_arg5) (ix1 o) = (x.scale1 o : EReal)
  shift1 : ∀ o, m ((c : Thread nD τ).loc main_arg6) (ix1 o) = x.shift1 o
  mix2 : ∀ o d, m ((c : Thread nD τ).loc main_arg7) (ix2 o d) = x.mix2 o d
  scale2 : ∀ o, m ((c : Thread nD τ).loc main_arg8) (ix1 o) = (x.scale2 o : EReal)
  shift2 : ∀ o, m ((c : Thread nD τ).loc main_arg9) (ix1 o) = x.shift2 o

variable {m c} {x : Inputs}

/-- The first region's first input: the targets, padded. -/
theorem entry_v7 : W1 m ρ c main_v7
    = concatenate S8x16x4096 1 [⟨S8x3x4096, transpose S8x3x4096 [0, 2, 1] (m ((c : Thread nD τ).loc main_arg0)) transposes_S8x4096x3_S8x3x4096_0_2_1⟩,
        ⟨S8x8x4096, extractStridedSlice S8x8x4096 ![0, 0, 0] (m ((c : Thread nD τ).loc main_arg2)) slices_S8x136x4096_S8x8x4096_0_0_0⟩,
        ⟨S8x5x4096, broadcastInDim S8x5x4096 ![] bcast_S_S8x5x4096 (constant (F := Ideal) S_ .f32 0#32)⟩]
      concatenates_S8x3x4096_S8x8x4096_S8x5x4096_S8x16x4096_d1 := by
  show StableHlo.after hostOps0 _ (Proc.devRef .tc main_v7) = _
  after_results
  rfl

theorem in_v7 (hx : Holds m c x) (b : Fin 8) (d : Fin 16) (n : Fin 4096) :
    W1 m ρ c main_v7 (ix3 b d n) = ((padded (x.target b n) d : ℝ) : EReal) := by
  rw [entry_v7]
  pointwise
  unfold padded Inputs.target
  by_cases h3 : d.val < 3
  · rw [dif_pos h3, dif_pos (by omega), dif_pos h3]
    exact hx.place _ _ _
  · rw [dif_neg h3]
    by_cases h8 : d.val - 3 < 8
    · rw [dif_pos h8, dif_pos (by omega), dif_neg h3]
      exact hx.own b ⟨d.val - 3, h8⟩ n
    · rw [dif_neg h8, dif_neg (by omega), EReal.coe_zero]

/-- The first region's second input: the sources, padded. -/
theorem entry_v9 : W1 m ρ c main_v9
    = concatenate S8x1024x16 2 [⟨S8x1024x3, m ((c : Thread nD τ).loc main_arg1)⟩,
        ⟨S8x1024x8, transpose S8x1024x8 [0, 2, 1] (extractStridedSlice S8x8x1024 ![0, 0, 0] (m ((c : Thread nD τ).loc main_arg3))
          slices_S8x264x1024_S8x8x1024_0_0_0) transposes_S8x8x1024_S8x1024x8_0_2_1⟩,
        ⟨S8x1024x5, broadcastInDim S8x1024x5 ![] bcast_S_S8x1024x5 (constant (F := Ideal) S_ .f32 0#32)⟩]
      concatenates_S8x1024x3_S8x1024x8_S8x1024x5_S8x1024x16_d2 := by
  show StableHlo.after hostOps0 _ (Proc.devRef .tc main_v9) = _
  after_results
  rfl

theorem in_v9 (hx : Holds m c x) (b : Fin 8) (k : Fin 1024) (d : Fin 16) :
    W1 m ρ c main_v9 (ix3 b k d) = ((padded (x.source b k) d : ℝ) : EReal) := by
  rw [entry_v9]
  pointwise
  unfold padded Inputs.source
  by_cases h3 : d.val < 3
  · rw [dif_pos h3, dif_pos (by omega), dif_pos h3]
    exact hx.site _ _ _
  · rw [dif_neg h3]
    by_cases h8 : d.val - 3 < 8
    · rw [dif_pos h8, dif_pos (by omega), dif_neg h3]
      exact hx.known b ⟨d.val - 3, h8⟩ k
    · rw [dif_neg h8, dif_neg (by omega), EReal.coe_zero]

/-- Its third: the features to be interpolated. -/
theorem in_v2 (hx : Holds m c x) (b : Fin 8) (d : Fin 256) (k : Fin 1024) : W1 m ρ c main_v2 (ix3 b d k) = x.given b d k := by
  have e : W1 m ρ c main_v2
      = extractStridedSlice S8x256x1024 ![0, 8, 0] (m ((c : Thread nD τ).loc main_arg3)) slices_S8x264x1024_S8x256x1024_0_8_0 := by
    show StableHlo.after hostOps0 _ (Proc.devRef .tc main_v2) = _
    after_results
  rw [e]
  pointwise
  exact hx.given _ _ _

/-- Its fourth: the targets' further features. -/
theorem in_v1 (hx : Holds m c x) (b : Fin 8) (d : Fin 128) (n : Fin 4096) : W1 m ρ c main_v1 (ix3 b d n) = x.further b d n := by
  have e : W1 m ρ c main_v1
      = extractStridedSlice S8x128x4096 ![0, 8, 0] (m ((c : Thread nD τ).loc main_arg2)) slices_S8x136x4096_S8x128x4096_0_8_0 := by
    show StableHlo.after hostOps0 _ (Proc.devRef .tc main_v1) = _
    after_results
  rw [e]
  pointwise
  exact hx.further _ _ _

/-- The first eight features, which go into the result as they are. -/
theorem in_v0 (hx : Holds m c x) (b : Fin 8) (d : Fin 8) (n : Fin 4096) :
    W1 m ρ c main_v0 (ix3 b d n) = (x.own b d n : EReal) := by
  have e : W1 m ρ c main_v0
      = extractStridedSlice S8x8x4096 ![0, 0, 0] (m ((c : Thread nD τ).loc main_arg2)) slices_S8x136x4096_S8x8x4096_0_0_0 := by
    show StableHlo.after hostOps0 _ (Proc.devRef .tc main_v0) = _
    after_results
  rw [e]
  pointwise
  exact hx.own _ _ _

theorem in_arg4 (hx : Holds m c x) (o : Fin 256) (d : Fin 384) : W1 m ρ c main_arg4 (ix2 o d) = x.mix1 o d := by
  rw [show W1 m ρ c main_arg4 = _ from W1_args m ρ c main_arg4 (by decide)]
  exact hx.mix1 o d

variable {i : Fin 8 → Fin 4096 → Fin 3 → Fin 1024}

/-- After the first region: the values of the first mixing, -/
theorem mid_v10_0 (hx : Holds m c x) (hi : Nearest x i) (b : Fin 8) (o : Fin 256) (n : Fin 4096) :
    W3 m ρ c main_v10_0 (ix3 b o n) = x.first i o b n := by
  rw [show W3 m ρ c main_v10_0 = (dat0 (V1 m ρ) c).arrAt 5 cfg0.N from (W3_of m ρ c main_v10_0 (by decide)).trans (W2_arr m ρ c 5)]
  exact First.values_eq (V1 m ρ) c (in_v7 ρ hx) (in_v9 ρ hx) (in_v2 ρ hx) (in_v1 ρ hx) (in_arg4 ρ hx) hi b o n

/-- their sums, -/
theorem mid_v10_1 (hx : Holds m c x) (hi : Nearest x i) (o : Fin 256) :
    W3 m ρ c main_v10_1 (ix2 o 0) = ∑ b, ∑ n, x.first i o b n := by
  rw [show W3 m ρ c main_v10_1 = (dat0 (V1 m ρ) c).arrAt 6 cfg0.N from (W3_of m ρ c main_v10_1 (by decide)).trans (W2_arr m ρ c 6)]
  exact First.sum_eq (V1 m ρ) c (in_v7 ρ hx) (in_v9 ρ hx) (in_v2 ρ hx) (in_v1 ρ hx) (in_arg4 ρ hx) hi o

/-- and the sums of their squares. -/
theorem mid_v10_2 (hx : Holds m c x) (hi : Nearest x i) (o : Fin 256) :
    W3 m ρ c main_v10_2 (ix2 o 0) = ∑ b, ∑ n, x.first i o b n * x.first i o b n := by
  rw [show W3 m ρ c main_v10_2 = (dat0 (V1 m ρ) c).arrAt 7 cfg0.N from (W3_of m ρ c main_v10_2 (by decide)).trans (W2_arr m ρ c 7)]
  exact First.squares_eq (V1 m ρ) c (in_v7 ρ hx) (in_v9 ρ hx) (in_v2 ρ hx) (in_v1 ρ hx) (in_arg4 ρ hx) hi o

/-- The scales and shifts, as columns. -/
theorem mid_v11 (hx : Holds m c x) (o : Fin 256) : W3 m ρ c main_v11 (ix2 o 0) = (x.scale1 o : EReal) := by
  have e : W3 m ρ c main_v11 = shapeCast S256x1 (W2 m ρ c main_arg5) shapeCasts_S256_S256x1 := by
    show StableHlo.after hostOps1 _ (Proc.devRef .tc main_v11) = _
    after_results
    rfl
  rw [e, show W2 m ρ c main_arg5 = _ from W2_args m ρ c main_arg5 (by decide)]
  pointwise
  exact hx.scale1 o

theorem mid_v12 (hx : Holds m c x) (o : Fin 256) : W3 m ρ c main_v12 (ix2 o 0) = x.shift1 o := by
  have e : W3 m ρ c main_v12 = shapeCast S256x1 (W2 m ρ c main_arg6) shapeCasts_S256_S256x1 := by
    show StableHlo.after hostOps1 _ (Proc.devRef .tc main_v12) = _
    after_results
    rfl
  rw [e, show W2 m ρ c main_arg6 = _ from W2_args m ρ c main_arg6 (by decide)]
  pointwise
  exact hx.shift1 o

theorem mid_v13 (hx : Holds m c x) (o : Fin 256) : W3 m ρ c main_v13 (ix2 o 0) = (x.scale2 o : EReal) := by
  have e : W3 m ρ c main_v13 = shapeCast S256x1 (W2 m ρ c main_arg8) shapeCasts_S256_S256x1 := by
    show StableHlo.after hostOps1 _ (Proc.devRef .tc main_v13) = _
    after_results
    rfl
  rw [e, show W2 m ρ c main_arg8 = _ from W2_args m ρ c main_arg8 (by decide)]
  pointwise
  exact hx.scale2 o

theorem mid_v14 (hx : Holds m c x) (o : Fin 256) : W3 m ρ c main_v14 (ix2 o 0) = x.shift2 o := by
  have e : W3 m ρ c main_v14 = shapeCast S256x1 (W2 m ρ c main_arg9) shapeCasts_S256_S256x1 := by
    show StableHlo.after hostOps1 _ (Proc.devRef .tc main_v14) = _
    after_results
    rfl
  rw [e, show W2 m ρ c main_arg9 = _ from W2_args m ρ c main_arg9 (by decide)]
  pointwise
  exact hx.shift2 o

theorem mid_arg7 (hx : Holds m c x) (o d : Fin 256) : W3 m ρ c main_arg7 (ix2 o d) = x.mix2 o d := by
  rw [show W3 m ρ c main_arg7 = _ from W3_args m ρ c main_arg7 (by decide)]
  exact hx.mix2 o d

/-- After the second region: the values of the second mixing, -/
theorem late_v15_0 (hx : Holds m c x) (hi : Nearest x i) (b : Fin 8) (o : Fin 256) (n : Fin 4096) :
    W4 m ρ c main_v15_0 (ix3 b o n) = x.second i o b n := by
  rw [show W4 m ρ c main_v15_0 = (dat1 (V3 m ρ) c).arrAt 6 cfg1.N from W4_arr m ρ c 6]
  exact Second.values_eq (V3 m ρ) c (mid_v10_0 ρ hx hi) (mid_v10_1 ρ hx hi) (mid_v10_2 ρ hx hi) (mid_v11 ρ hx) (mid_v12 ρ hx)
    (mid_arg7 ρ hx) b o n

/-- their sums, -/
theorem late_v15_1 (hx : Holds m c x) (hi : Nearest x i) (o : Fin 256) :
    W4 m ρ c main_v15_1 (ix2 o 0) = ∑ b, ∑ n, x.second i o b n := by
  rw [show W4 m ρ c main_v15_1 = (dat1 (V3 m ρ) c).arrAt 7 cfg1.N from W4_arr m ρ c 7]
  exact Second.sum_eq (V3 m ρ) c (mid_v10_0 ρ hx hi) (mid_v10_1 ρ hx hi) (mid_v10_2 ρ hx hi) (mid_v11 ρ hx) (mid_v12 ρ hx)
    (mid_arg7 ρ hx) o

/-- and the sums of their squares. -/
theorem late_v15_2 (hx : Holds m c x) (hi : Nearest x i) (o : Fin 256) :
    W4 m ρ c main_v15_2 (ix2 o 0) = ∑ b, ∑ n, x.second i o b n * x.second i o b n := by
  rw [show W4 m ρ c main_v15_2 = (dat1 (V3 m ρ) c).arrAt 8 cfg1.N from W4_arr m ρ c 8]
  exact Second.squares_eq (V3 m ρ) c (mid_v10_0 ρ hx hi) (mid_v10_1 ρ hx hi) (mid_v10_2 ρ hx hi) (mid_v11 ρ hx) (mid_v12 ρ hx)
    (mid_arg7 ρ hx) o

theorem late_v13 (hx : Holds m c x) (o : Fin 256) : W4 m ρ c main_v13 (ix2 o 0) = (x.scale2 o : EReal) := by
  rw [show W4 m ρ c main_v13 = _ from W4_of m ρ c main_v13 (by decide)]
  exact mid_v13 ρ hx o

theorem late_v14 (hx : Holds m c x) (o : Fin 256) : W4 m ρ c main_v14 (ix2 o 0) = x.shift2 o := by
  rw [show W4 m ρ c main_v14 = _ from W4_of m ρ c main_v14 (by decide)]
  exact mid_v14 ρ hx o

/-- After the third region: the values normalized, -/
theorem end_v16 (hx : Holds m c x) (hi : Nearest x i) (b : Fin 8) (o : Fin 256) (n : Fin 4096) :
    W5 m ρ c main_v16 (ix3 b o n) = normed (x.second i o) (x.scale2 o) (x.shift2 o) b n := by
  rw [show W5 m ρ c main_v16 = (dat2 (V4 m ρ) c).arrAt 5 cfg2.N from W5_arr m ρ c 5]
  exact Third.values_eq (V4 m ρ) c (late_v15_0 ρ hx hi) (late_v15_1 ρ hx hi) (late_v15_2 ρ hx hi) (late_v13 ρ hx) (late_v14 ρ hx) b o n

/-- and the first eight features as they were. -/
theorem end_v0 (hx : Holds m c x) (b : Fin 8) (d : Fin 8) (n : Fin 4096) :
    W5 m ρ c main_v0 (ix3 b d n) = (x.own b d n : EReal) := by
  rw [show W5 m ρ c main_v0 = W1 m ρ c main_v0 from (W5_of m ρ c main_v0 (by decide)).trans ((W4_of m ρ c main_v0 (by decide)).trans
    ((W3_of m ρ c main_v0 (by decide)).trans (W2_of m ρ c main_v0 (by decide))))]
  exact in_v0 ρ hx b d n

/-- The kernel's result. -/
theorem result (hx : Holds m c x) (hi : Nearest x i) (b : Fin 8) (r : Fin 264) (n : Fin 4096) :
    W6 m ρ c main_v17 (ix3 b r n) = x.result i b r n := by
  have e : W6 m ρ c main_v17
      = concatenate S8x264x4096 1 [⟨S8x8x4096, W5 m ρ c main_v0⟩, ⟨S8x256x4096, W5 m ρ c main_v16⟩]
        concatenates_S8x8x4096_S8x256x4096_S8x264x4096_d1 := by
    show StableHlo.after hostOps3 _ (Proc.devRef .tc main_v17) = _
    after_results
  rw [e]
  pointwise
  unfold Inputs.result
  split
  · exact end_v0 ρ hx _ _ _
  · exact end_v16 ρ hx hi _ _ _

end Cert.KernelIdeal.HostLines

end

end
-- ==== Proof.Run.lean ====
/-
  The kernel's run with its result: every final state holds the result array the segments of the program leave, and the
  arguments as they were.
-/
module

public import proofs.«01_k».proof.Proof.Gen.KernelIdeal.Frame

@[expose] public section

set_option maxRecDepth 16384

noncomputable section

namespace Cert.KernelIdeal.WholeRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with the statement, which takes unfolding plain
-- definitions in a metavariable's type
set_option backward.isDefEq.respectTransparency.types false in
/-- From any memory with zero counters every weakly fair execution ends, nothing faulting, with the result array holding what
    the program's segments compose to and every argument array unchanged. -/
theorem run : θ_run defs (onTc (τ := τ) (main (F := F))) ⟨m, fun _ => 0, ρ⟩ (fun r => ∀ c : Dev nD,
      r.2.mem ((c.tc : Thread nD τ).loc main_v17) = W6 m ρ c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v17 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.WholeRun

end

end
-- ==== Proof.Arrays.lean ====
/-
  The argument arrays of a program that hold given inputs.
-/
module

public import proofs.«01_k».proof.Proof.Result
public import Idealize.ShloMosaic.Lib.Pipeline.ValueKit
public import Idealize.ShloMosaic.Lib.Pointwise

@[expose] public section

noncomputable section

namespace Cert.Arrays

open Idealize.ShloMosaic Cert.Result

/-- Ten arrays hold the inputs `x`, element by element. -/
structure Hold (x0 : (⟨3, ![8, 4096, 3]⟩ : Shape).Idx → EReal) (x1 : (⟨3, ![8, 1024, 3]⟩ : Shape).Idx → EReal)
    (x2 : (⟨3, ![8, 136, 4096]⟩ : Shape).Idx → EReal) (x3 : (⟨3, ![8, 264, 1024]⟩ : Shape).Idx → EReal)
    (x4 : (⟨2, ![256, 384]⟩ : Shape).Idx → EReal) (x5 x6 : (⟨1, ![256]⟩ : Shape).Idx → EReal)
    (x7 : (⟨2, ![256, 256]⟩ : Shape).Idx → EReal) (x8 x9 : (⟨1, ![256]⟩ : Shape).Idx → EReal) (x : Inputs) : Prop where
  place : ∀ b n d, x0 (ix3 b n d) = (x.place b n d : EReal)
  site : ∀ b k d, x1 (ix3 b k d) = (x.site b k d : EReal)
  own : ∀ b (d : Fin 8) n, x2 (ix3 b ⟨d.val, by omega⟩ n) = (x.own b d n : EReal)
  known : ∀ b (d : Fin 8) k, x3 (ix3 b ⟨d.val, by omega⟩ k) = (x.known b d k : EReal)
  further : ∀ b (d : Fin 128) n, x2 (ix3 b ⟨8 + d.val, by omega⟩ n) = x.further b d n
  given : ∀ b (d : Fin 256) k, x3 (ix3 b ⟨8 + d.val, by omega⟩ k) = x.given b d k
  mix1 : ∀ o d, x4 (ix2 o d) = x.mix1 o d
  scale1 : ∀ o, x5 (ix1 o) = (x.scale1 o : EReal)
  shift1 : ∀ o, x6 (ix1 o) = x.shift1 o
  mix2 : ∀ o d, x7 (ix2 o d) = x.mix2 o d
  scale2 : ∀ o, x8 (ix1 o) = (x.scale2 o : EReal)
  shift2 : ∀ o, x9 (ix1 o) = x.shift2 o

end Cert.Arrays

end

end
-- ==== Proof.RefDist.lean ====
/-
  The reference's squared distances.
-/
module

public import proofs.«01_k».proof.Proof.Arrays
public import proofs.«01_k».proof.Proof.Gen.ReferenceIdeal.Read

@[expose] public section

noncomputable section

namespace Cert.ReferenceIdeal.Dist

open Idealize.ShloMosaic Idealize.ShloMosaic.TcCoe Idealize.SL.Sem
open Cert.ReferenceIdeal Cert.ReferenceIdeal.Gen Cert.ReferenceIdeal.Read Cert.Result Cert.Arrays Cert.Spec

variable {x0 : (⟨S8x4096x3, .f32⟩ : BufTy).Contents (Elt Ideal)} {x1 : (⟨S8x1024x3, .f32⟩ : BufTy).Contents (Elt Ideal)}
  {x2 : (⟨S8x136x4096, .f32⟩ : BufTy).Contents (Elt Ideal)} {x3 : (⟨S8x264x1024, .f32⟩ : BufTy).Contents (Elt Ideal)}
  {x4 : (⟨S256x384, .f32⟩ : BufTy).Contents (Elt Ideal)} {x5 x6 : (⟨S256, .f32⟩ : BufTy).Contents (Elt Ideal)}
  {x7 : (⟨S256x256, .f32⟩ : BufTy).Contents (Elt Ideal)} {x8 x9 : (⟨S256, .f32⟩ : BufTy).Contents (Elt Ideal)} {x : Inputs}

/-- The factor the features are taken with is one. -/
theorem factor (i : S_.Idx) : val_main_v7 (F := Ideal) i = ((1 : ℝ) : EReal) := by
  show Ideal.sqrt (Ideal.ofBits .f32 0x3F800000#32) = _
  rw [show Ideal.ofBits .f32 0x3F800000#32 = ((1 : ℝ) : EReal) by simp [Ideal.ofBits, Ideal.ieee, -EReal.coe_mul, -EReal.coe_neg]; try norm_num]
  rw [Consts.sqrt_real zero_le_one, Real.sqrt_one]

theorem factor' (i : S_.Idx) : val_main_v11 (F := Ideal) i = ((1 : ℝ) : EReal) := factor i

/-- Where the points to be filled in lie. -/
theorem target_eq (hx : Hold x0 x1 x2 x3 x4 x5 x6 x7 x8 x9 x) (b : Fin 8) (n : Fin 4096) (d : Fin 11) :
    val_main_v10 (F := Ideal) x0 x2 (ix3 b n d) = (x.target b n d : EReal) := by
  unfold val_main_v10
  pointwise [val_main_v9, val_main_v8, val_main_v4, val_main_v2]
  unfold Inputs.target
  by_cases h : d.val < 3
  · rw [dif_pos h, dif_pos h]
    exact hx.place _ _ _
  · rw [dif_neg h, dif_neg h, factor, EReal.coe_one, one_mul]
    exact hx.own b ⟨d.val - 3, by omega⟩ n

/-- Where the known points lie. -/
theorem source_eq (hx : Hold x0 x1 x2 x3 x4 x5 x6 x7 x8 x9 x) (b : Fin 8) (k : Fin 1024) (d : Fin 11) :
    val_main_v14 (F := Ideal) x1 x3 (ix3 b k d) = (x.source b k d : EReal) := by
  unfold val_main_v14
  pointwise [val_main_v13, val_main_v12, val_main_v5, val_main_v0]
  unfold Inputs.source
  by_cases h : d.val < 3
  · rw [dif_pos h, dif_pos h]
    exact hx.site _ _ _
  · rw [dif_neg h, dif_neg h, factor', EReal.coe_one, one_mul]
    exact hx.known b ⟨d.val - 3, by omega⟩ k

/-- The word of zero. -/
theorem zero0 : Ideal.ofBits .f32 0x00000000#32 = 0 := by simp [Ideal.ofBits, Ideal.ieee]

/-- The sums of the squares of the coordinates, -/
theorem squares_target (hx : Hold x0 x1 x2 x3 x4 x5 x6 x7 x8 x9 x) (b : Fin 8) (n : Fin 4096) :
    val_main_v16 (F := Ideal) x0 x2 (ix2 b n) = ((∑ d, x.target b n d * x.target b n d : ℝ) : EReal) := by
  have e : ∀ d, idx_main_v16 (ix2 b n) d = ix3 b n d := fun d => by
    funext a
    match a with
    | ⟨0, _⟩ => rfl
    | ⟨1, _⟩ => rfl
    | ⟨2, _⟩ => rfl
  rw [val_main_v16_apply, ← Consts.sum_real]
  refine (congrArg (· + _) zero0).trans ((zero_add _).trans (Finset.sum_congr rfl fun d _ => ?_))
  rw [e, val_main_v15_apply, target_eq hx, EReal.coe_mul]
  rfl

theorem squares_source (hx : Hold x0 x1 x2 x3 x4 x5 x6 x7 x8 x9 x) (b : Fin 8) (k : Fin 1024) :
    val_main_v19 (F := Ideal) x1 x3 (ix2 b k) = ((∑ d, x.source b k d * x.source b k d : ℝ) : EReal) := by
  have e : ∀ d, idx_main_v19 (ix2 b k) d = ix3 b k d := fun d => by
    funext a
    match a with
    | ⟨0, _⟩ => rfl
    | ⟨1, _⟩ => rfl
    | ⟨2, _⟩ => rfl
  rw [val_main_v19_apply, ← Consts.sum_real]
  refine (congrArg (· + _) zero0).trans ((zero_add _).trans (Finset.sum_congr rfl fun d _ => ?_))
  rw [e, val_main_v18_apply, source_eq hx, EReal.coe_mul]
  rfl

/-- the sums of the products, -/
theorem products (hx : Hold x0 x1 x2 x3 x4 x5 x6 x7 x8 x9 x) (b : Fin 8) (n : Fin 4096) (k : Fin 1024) :
    val_main_v24 (F := Ideal) x0 x1 x2 x3 (ix3 b n k) = ((∑ d, x.target b n d * x.source b k d : ℝ) : EReal) := by
  have el : ∀ d, lidx_main_v24 (ix3 b n k) d = ix3 b n d := fun d => by
    funext a
    match a with
    | ⟨0, _⟩ => rfl
    | ⟨1, _⟩ => rfl
    | ⟨2, _⟩ => rfl
  have er : ∀ d, ridx_main_v24 (ix3 b n k) d = ix3 b k d := fun d => by
    funext a
    match a with
    | ⟨0, _⟩ => rfl
    | ⟨1, _⟩ => rfl
    | ⟨2, _⟩ => rfl
  rw [val_main_v24_apply, ← Consts.sum_real]
  refine Finset.sum_congr rfl fun d _ => ?_
  rw [el, er, target_eq hx, source_eq hx, EReal.coe_mul]

/-- and the squared distances, negated. -/
theorem negated_eq (hx : Hold x0 x1 x2 x3 x4 x5 x6 x7 x8 x9 x) (b : Fin 8) (n : Fin 4096) (k : Fin 1024) :
    val_main_v28 (F := Ideal) x0 x1 x2 x3 (ix3 b n k) = ((-(x.away b n k) : ℝ) : EReal) := by
  unfold val_main_v28
  pointwise [val_main_v27, val_main_v26, val_main_v25, val_main_v23, val_main_v22, val_main_v21, val_main_v20, val_main_v17]
  rw [squares_target hx, squares_source hx, products hx, show val_main_cst_2 (F := Ideal) ix0 = ((2 : ℝ) : EReal) from Consts.two,
    ← EReal.coe_add, ← EReal.coe_mul, ← EReal.coe_sub, ← EReal.coe_neg]
  rfl

end Cert.ReferenceIdeal.Dist

end

end
-- ==== Proof.Order.lean ====
/-
  A row of numbers in falling order, as the top-k operation puts it: the places its entries come from, what the first few
  are, and that the first three name the three least of the negated numbers where the fourth is strictly below the third.
-/
module

public import proofs.«01_k».proof.Proof.TopThree
public import Idealize.ShloMosaic.Lib.SortFacts
public import Idealize.ShloMosaic.Lib.Pipeline.ValueKit
public import Idealize.ShloMosaic.Lib.Pointwise
public import Idealize.ShloMosaic.PureOps.Ideal

@[expose] public section

noncomputable section

namespace Cert.Order

open Idealize.ShloMosaic Cert.TopThree

/-- The places of a row's entries in falling order, equal entries from left to right. -/
def place (v : Fin 1024 → EReal) : Fin 1024 → Fin 1024 := sortedFrom fun k k' => Ideal.cmpTotal .gt (v k) (v k') == 1#1

theorem before_iff (x y : EReal) : (Ideal.cmpTotal .gt x y == 1#1) = true ↔ y < x := by
  unfold Ideal.cmpTotal Ideal.cmp
  by_cases h : y < x <;> simp [CmpDirection.ordered, h]

theorem not_before_iff (x y : EReal) : (Ideal.cmpTotal .gt x y == 1#1) = false ↔ x ≤ y := by
  rw [← Bool.not_eq_true, before_iff, not_lt]

/-- Every place occurs once. -/
theorem place_injective (v : Fin 1024 → EReal) : Function.Injective (place v) := sortedFrom_injective _

theorem place_surjective (v : Fin 1024 → EReal) : Function.Surjective (place v) := sortedFrom_surjective _

/-- The entries fall. -/
theorem place_falls (v : Fin 1024 → EReal) {i j : Fin 1024} (h : i ≤ j) : v (place v j) ≤ v (place v i) := by
  rcases h.lt_or_eq with h | rfl
  · exact (not_before_iff _ _).mp (sortedFrom_noInversion (fun k k' => Ideal.cmpTotal .gt (v k) (v k') == 1#1) _
      (fun a b h => (not_before_iff _ _).mpr ((before_iff _ _).mp h).le) (fun _ _ h => h)
      (fun a b c h h' => (not_before_iff _ _).mpr (((not_before_iff _ _).mp h).trans ((not_before_iff _ _).mp h'))) i j h)
  · exact le_rfl

/-- Where the first `K` of them come from. -/
def first {K : ℕ} (hK : K ≤ 1024) (v : Fin 1024 → EReal) (j : Fin K) : Fin 1024 := place v (j.castLE hK)

/-- If the fourth entry is below the third, the first three places name the three least of the negated numbers. -/
theorem least {e v : Fin 1024 → EReal} (hv : ∀ m, v m = -e m)
    (h : v (first (K := 4) (by decide) v 3) < v (first (K := 4) (by decide) v 2)) :
    Least e (first (K := 3) (by decide) v) := by
  have le : ∀ i j : Fin 1024, i ≤ j → e (place v i) ≤ e (place v j) := fun i j hij => by
    have := place_falls v hij
    rw [hv, hv] at this
    exact EReal.neg_le_neg_iff.mp this
  have h' : e (place v 2) < e (place v 3) := by
    rw [hv, hv] at h
    exact EReal.neg_lt_neg_iff.mp h
  refine ⟨fun a b hab => ?_, le 0 1 (by decide), le 1 2 (by decide), fun m hm => ?_⟩
  · have := place_injective v hab
    exact Fin.ext (congrArg (fun z : Fin 1024 => z.val) this)
  · obtain ⟨p, rfl⟩ := place_surjective v m
    have hp : (3 : Fin 1024) ≤ p := by
      by_contra hlt
      have hlt : p.val < 3 := by
        have : p.val < (3 : Fin 1024).val := Fin.lt_def.mp (not_le.mp hlt)
        exact this
      exact hm ⟨p.val, hlt⟩ (congrArg (place v) (Fin.ext rfl))
    exact h'.trans_le (le 3 p hp)

section Operation

variable {K : ℕ} (hK : K ≤ 1024)
  (h : (⟨3, ![8, 4096, 1024]⟩ : Shape).Slices (fun _ => 0) ⟨3, ![8, 4096, K]⟩)
  (x : (⟨3, ![8, 4096, 1024]⟩ : Shape).Idx → EReal) (b : Fin 8) (n : Fin 4096) (j : Fin K)

theorem along_eq (k k' : Fin 1024) :
    Shape.Idx.along (s := ⟨3, ![8, 4096, 1024]⟩) (ix3 b n k) (2 : Fin 3) k' = ix3 b n k' := by
  funext a
  match a with
  | ⟨0, _⟩ => rfl
  | ⟨1, _⟩ => rfl
  | ⟨2, _⟩ => rfl

theorem slice_eq {α : Type} (y : (⟨3, ![8, 4096, 1024]⟩ : Shape).Idx → α) :
    extractStridedSlice ⟨3, ![8, 4096, K]⟩ (fun _ => 0) y h (ix3 b n j) = y (ix3 b n (j.castLE hK)) := by
  refine congrArg y (funext fun a => Fin.ext ?_)
  match a with
  | ⟨0, _⟩ => exact Nat.zero_add _
  | ⟨1, _⟩ => exact Nat.zero_add _
  | ⟨2, _⟩ => exact Nat.zero_add _

theorem sorted_from (k : Fin 1024) :
    sortedFrom (fun p p' : Fin 1024 =>
      Ideal.cmpTotal .gt (x (Shape.Idx.along (s := ⟨3, ![8, 4096, 1024]⟩) (ix3 b n k) (2 : Fin 3) p))
        (x (Shape.Idx.along (s := ⟨3, ![8, 4096, 1024]⟩) (ix3 b n k) (2 : Fin 3) p')) == 1#1) k = place (fun m => x (ix3 b n m)) k := by
  simp only [along_eq]
  rfl

/-- Both operands of the sort are read at the place. -/
theorem sort_fst (y : (⟨3, ![8, 4096, 1024]⟩ : Shape).Idx → BitVec 32) (k : Fin 1024) :
    (Host.sort2 ⟨3, ![8, 4096, 1024]⟩ 2 (fun l r => FloatOps.cmpfTotal (F := Ideal) (φ := .f32) .gt l.1 r.1) x y).1 (ix3 b n k)
      = x (ix3 b n (place (fun m => x (ix3 b n m)) k)) := by
  unfold Host.sort2
  exact (congrArg (fun p => x (Shape.Idx.along (s := ⟨3, ![8, 4096, 1024]⟩) (ix3 b n k) (2 : Fin 3) p))
    (sorted_from x b n k)).trans (congrArg x (along_eq b n _ _))

theorem sort_snd (y : (⟨3, ![8, 4096, 1024]⟩ : Shape).Idx → BitVec 32) (k : Fin 1024) :
    (Host.sort2 ⟨3, ![8, 4096, 1024]⟩ 2 (fun l r => FloatOps.cmpfTotal (F := Ideal) (φ := .f32) .gt l.1 r.1) x y).2 (ix3 b n k)
      = y (ix3 b n (place (fun m => x (ix3 b n m)) k)) := by
  unfold Host.sort2
  exact (congrArg (fun p => y (Shape.Idx.along (s := ⟨3, ![8, 4096, 1024]⟩) (ix3 b n k) (2 : Fin 3) p))
    (sorted_from x b n k)).trans (congrArg y (along_eq b n _ _))

/-- The operation's values. -/
theorem values_eq :
    (Host.topK ⟨3, ![8, 4096, K]⟩ 2 (FloatOps.cmpfTotal (F := Ideal) (φ := .f32) .gt) x h).1 (ix3 b n j)
      = x (ix3 b n (first hK (fun m => x (ix3 b n m)) j)) := by
  unfold Host.topK
  dsimp only
  exact (slice_eq hK h b n j _).trans (sort_fst x b n _ _)

/-- The operation's places. -/
theorem places_eq :
    (Host.topK ⟨3, ![8, 4096, K]⟩ 2 (FloatOps.cmpfTotal (F := Ideal) (φ := .f32) .gt) x h).2 (ix3 b n j)
      = BitVec.ofNat 32 (first hK (fun m => x (ix3 b n m)) j).val := by
  unfold Host.topK
  dsimp only
  refine (slice_eq hK h b n j _).trans ((sort_snd x b n _ _).trans ?_)
  rw [dif_pos (by decide)]
  rfl

end Operation

end Cert.Order

end

end
-- ==== Proof.RefNear.lean ====
/-
  The reference's three nearest points, their weights, and the features taken from them.
-/
module

public import proofs.«01_k».proof.Proof.RefDist
public import proofs.«01_k».proof.Proof.Order

@[expose] public section

noncomputable section

namespace Cert.ReferenceIdeal.Near

open Idealize.ShloMosaic Idealize.ShloMosaic.TcCoe Idealize.SL.Sem
open Cert.ReferenceIdeal Cert.ReferenceIdeal.Gen Cert.ReferenceIdeal.Read Cert.ReferenceIdeal.Dist Cert.Result Cert.Arrays Cert.Spec

/-- The negated squared distances of a point to the known ones. -/
def row (x : Inputs) (b : Fin 8) (n : Fin 4096) (m : Fin 1024) : EReal := ((-(x.away b n m) : ℝ) : EReal)

/-- The three known points the operation finds. -/
def found (x : Inputs) (b : Fin 8) (n : Fin 4096) : Fin 3 → Fin 1024 := Order.first (by decide) (row x b n)

/-- The fourth nearest point is strictly farther than the third, of every point. -/
def Apart (x : Inputs) : Prop := ∀ b n, row x b n (Order.first (K := 4) (by decide) (row x b n) 3)
  < row x b n (Order.first (K := 4) (by decide) (row x b n) 2)

/-- Then the three found are the nearest. -/
theorem nearest {x : Inputs} (h : Apart x) : Nearest x (found x) := fun b n =>
  Order.least (fun m => by rw [row, EReal.coe_neg]) (h b n)

variable {x0 : (⟨S8x4096x3, .f32⟩ : BufTy).Contents (Elt Ideal)} {x1 : (⟨S8x1024x3, .f32⟩ : BufTy).Contents (Elt Ideal)}
  {x2 : (⟨S8x136x4096, .f32⟩ : BufTy).Contents (Elt Ideal)} {x3 : (⟨S8x264x1024, .f32⟩ : BufTy).Contents (Elt Ideal)}
  {x4 : (⟨S256x384, .f32⟩ : BufTy).Contents (Elt Ideal)} {x5 x6 : (⟨S256, .f32⟩ : BufTy).Contents (Elt Ideal)}
  {x7 : (⟨S256x256, .f32⟩ : BufTy).Contents (Elt Ideal)} {x8 x9 : (⟨S256, .f32⟩ : BufTy).Contents (Elt Ideal)} {x : Inputs}

theorem row_eq (hx : Hold x0 x1 x2 x3 x4 x5 x6 x7 x8 x9 x) (b : Fin 8) (n : Fin 4096) :
    (fun m => val_main_v28 (F := Ideal) x0 x1 x2 x3 (ix3 b n m)) = row x b n := funext fun m => negated_eq hx b n m

theorem values_eq (hx : Hold x0 x1 x2 x3 x4 x5 x6 x7 x8 x9 x) (b : Fin 8) (n : Fin 4096) (j : Fin 3) :
    val_main_values (F := Ideal) x0 x1 x2 x3 (ix3 b n j) = ((-(x.away b n (found x b n j)) : ℝ) : EReal) := by
  refine (Order.values_eq (K := 3) (by decide) sliceFits_S8x4096x1024_S8x4096x3 (val_main_v28 (F := Ideal) x0 x1 x2 x3) b n j).trans ?_
  rw [row_eq hx]
  exact negated_eq hx b n _

theorem indices_eq (hx : Hold x0 x1 x2 x3 x4 x5 x6 x7 x8 x9 x) (b : Fin 8) (n : Fin 4096) (j : Fin 3) :
    val_main_indices (F := Ideal) x0 x1 x2 x3 (ix3 b n j) = BitVec.ofNat 32 (found x b n j).val := by
  refine (Order.places_eq (K := 3) (by decide) sliceFits_S8x4096x1024_S8x4096x3 (val_main_v28 (F := Ideal) x0 x1 x2 x3) b n j).trans ?_
  rw [row_eq hx]
  rfl

/-- The word of one. -/
theorem one0 : Ideal.ofBits .f32 0x3F800000#32 = ((1 : ℝ) : EReal) := by
  simp [Ideal.ofBits, Ideal.ieee, -EReal.coe_mul, -EReal.coe_neg]
  norm_num

/-- The inverse distances, -/
theorem recip_eq (hx : Hold x0 x1 x2 x3 x4 x5 x6 x7 x8 x9 x) (b : Fin 8) (n : Fin 4096) (j : Fin 3) :
    val_main_v36 (F := Ideal) x0 x1 x2 x3 (ix3 b n j) = (recip (x.away b n (found x b n j)) : EReal) := by
  unfold val_main_v36
  pointwise [val_main_v35, val_main_v34, val_main_v33, val_main_v32, val_main_v31, val_main_v30, val_main_v29]
  rw [values_eq hx, show val_main_cst_3 (F := Ideal) ix0 = ((0 : ℝ) : EReal) from zero0,
    show val_main_cst_4 (F := Ideal) ix0 = (Consts.near : EReal) from Consts.near_eq,
    show val_main_cst_5 (F := Ideal) ix0 = ((1 : ℝ) : EReal) from one0, ← EReal.coe_neg, neg_neg, Consts.max_real,
    Consts.sqrt_real (le_max_right _ _), ← EReal.coe_add, Consts.div_real _ (recip_den_pos _).ne']
  rfl

/-- their sum, -/
theorem total_eq (hx : Hold x0 x1 x2 x3 x4 x5 x6 x7 x8 x9 x) (b : Fin 8) (n : Fin 4096) :
    val_main_v37 (F := Ideal) x0 x1 x2 x3 (ix2 b n) = (total (fun j => x.away b n (found x b n j)) : EReal) := by
  have e : ∀ d, idx_main_v37 (ix2 b n) d = ix3 b n d := fun d => by
    funext a
    match a with
    | ⟨0, _⟩ => rfl
    | ⟨1, _⟩ => rfl
    | ⟨2, _⟩ => rfl
  rw [val_main_v37_apply]
  refine (congrArg (· + _) zero0).trans ((zero_add _).trans ?_)
  simp only [e, recip_eq hx]
  rw [Consts.sum_real, Fin.sum_univ_three]
  rfl

/-- and the weights. -/
theorem weight_eq (hx : Hold x0 x1 x2 x3 x4 x5 x6 x7 x8 x9 x) (b : Fin 8) (n : Fin 4096) (j : Fin 3) :
    val_main_v40 (F := Ideal) x0 x1 x2 x3 (ix3 b n j) = (weight (fun j => x.away b n (found x b n j)) j : EReal) := by
  unfold val_main_v40
  pointwise [val_main_v39, val_main_v38]
  rw [recip_eq hx, total_eq hx, Consts.div_real _ (total_pos _).ne']
  rfl

/-- A place as a word. -/
theorem word (p : Fin 1024) : (BitVec.ofNat 32 p.val).toInt = p.val := by
  have hp := p.isLt
  have h : (BitVec.ofNat 32 p.val).toNat = p.val := by rw [BitVec.toNat_ofNat]; omega
  rw [BitVec.toInt_eq_toNat_of_lt (by rw [h]; omega), h]

theorem not_negative (p : Fin 1024) : IntOp.cmpi .slt (BitVec.ofNat 32 p.val) 0#32 = 0#1 := by
  show BitVec.ofBool (BitVec.slt (BitVec.ofNat 32 p.val) 0#32) = 0#1
  rw [BitVec.slt, word]
  have h : ¬ ((p.val : ℤ) < (0#32 : BitVec 32).toInt) := not_lt.mpr (Int.natCast_nonneg _)
  rw [decide_eq_false h]
  rfl

/-- The places, none of them negative, -/
theorem places_eq (hx : Hold x0 x1 x2 x3 x4 x5 x6 x7 x8 x9 x) (b : Fin 8) (n : Fin 4096) (j : Fin 3) :
    val_main_v45 (F := Ideal) x0 x1 x2 x3 (ix3 b n j) = BitVec.ofNat 32 (found x b n j).val := by
  rw [val_main_v45_apply, val_main_v42_apply, indices_eq hx]
  rw [show val_main_v41 (F := Ideal) (ix3 b n j) = 0#32 from (val_main_v41_apply _).trans rfl, not_negative]
  rfl

/-- The dimension numbers of the read. -/
abbrev dims := gather_S8x256x1024_S8x4096x3x1_S8x256x4096x3_1_2_0_0_2_3_12561

/-- at which the features are read. -/
theorem place_read (y : (⟨S8x256x1024, .f32⟩ : BufTy).Contents (Elt Ideal)) (idx : (⟨S8x4096x3x1, .i32⟩ : BufTy).Contents (Elt Ideal))
    (b : Fin 8) (d : Fin 256) (n : Fin 4096) (j : Fin 3) (p : Fin 1024) (hp : idx (ix4 b n j 0) = BitVec.ofNat 32 p.val) :
    Host.gather dims y idx (ix4 b d n j) = y (ix3 b d p) := by
  refine congrArg y (funext fun a => Fin.ext ?_)
  match a with
  | ⟨0, _⟩ =>
    show dims.start (ix4 b d n j) idx 0 + dims.batchCoord (ix4 b d n j) 0 + dims.offCoord (ix4 b d n j) 0 = b.val
    unfold GatherDims.start GatherDims.batchCoord GatherDims.offCoord
    rw [dif_neg (by decide), dif_pos (by decide), dif_neg (by decide), Nat.zero_add, Nat.add_zero]
    rfl
  | ⟨1, _⟩ =>
    show dims.start (ix4 b d n j) idx 1 + dims.batchCoord (ix4 b d n j) 1 + dims.offCoord (ix4 b d n j) 1 = d.val
    unfold GatherDims.start GatherDims.batchCoord GatherDims.offCoord
    rw [dif_neg (by decide), dif_neg (by decide), dif_pos (by decide), Nat.zero_add]
    rfl
  | ⟨2, _⟩ =>
    show dims.start (ix4 b d n j) idx 2 + dims.batchCoord (ix4 b d n j) 2 + dims.offCoord (ix4 b d n j) 2 = p.val
    have hi : ∀ c, dims.siIdx (ix4 b d n j) c = ix4 b n j 0 := fun c => by
      funext a
      match a with
      | ⟨0, _⟩ => rfl
      | ⟨1, _⟩ => rfl
      | ⟨2, _⟩ => rfl
      | ⟨3, _⟩ => exact Fin.ext (by have := c.isLt; exact Nat.lt_one_iff.mp this)
    unfold GatherDims.start GatherDims.batchCoord GatherDims.offCoord
    rw [dif_pos (by decide), dif_neg (by decide), dif_neg (by decide), hi, hp, word, Nat.add_zero]
    show min (p.val : ℤ).toNat (1024 - 1) = p.val
    rw [Int.toNat_natCast]
    have := p.isLt
    omega

theorem given_eq (hx : Hold x0 x1 x2 x3 x4 x5 x6 x7 x8 x9 x) (b : Fin 8) (d : Fin 256) (n : Fin 4096) (j : Fin 3) :
    val_main_v47 (F := Ideal) x0 x1 x2 x3 (ix4 b d n j) = x.given b d (found x b n j) := by
  unfold val_main_v47
  refine (place_read _ _ b d n j (found x b n j) ?_).trans ?_
  · unfold val_main_v46
    pointwise
    exact places_eq hx b n j
  · unfold val_main_v1
    pointwise
    exact hx.given _ _ _

/-- The interpolated features. -/
theorem blend_eq (hx : Hold x0 x1 x2 x3 x4 x5 x6 x7 x8 x9 x) (b : Fin 8) (n : Fin 4096) (d : Fin 256) :
    val_main_v48 (F := Ideal) x0 x1 x2 x3 (ix3 b n d) = blend (x.given b d) (x.away b n) (found x b n) := by
  have el : ∀ j, lidx_main_v48 (ix3 b n d) j = ix3 b n j := fun j => by
    funext a
    match a with
    | ⟨0, _⟩ => rfl
    | ⟨1, _⟩ => rfl
    | ⟨2, _⟩ => rfl
  have er : ∀ j, ridx_main_v48 (ix3 b n d) j = ix4 b d n j := fun j => by
    funext a
    match a with
    | ⟨0, _⟩ => rfl
    | ⟨1, _⟩ => rfl
    | ⟨2, _⟩ => rfl
    | ⟨3, _⟩ => rfl
  rw [val_main_v48_apply, blend]
  refine Finset.sum_congr rfl fun j _ => ?_
  rw [el, er, weight_eq hx, given_eq hx]

end Cert.ReferenceIdeal.Near

end

end
-- ==== Proof.RefBn.lean ====
/-
  The reference's batch normalization, over any array of values.
-/
module

public import proofs.«01_k».proof.Proof.RefDist

@[expose] public section

noncomputable section

namespace Cert.ReferenceIdeal.Bn

open Idealize.ShloMosaic Idealize.ShloMosaic.TcCoe Idealize.SL.Sem
open Cert.ReferenceIdeal Cert.ReferenceIdeal.Gen Cert.Spec

/-- A sum over the first and the last of three coordinates. -/
theorem sum_outer (h : S8x256x4096.ReducesTo [0, 2] S256) (y : S8x256x4096.Idx → EReal) (init : EReal) (o : Fin 256) :
    Ideal.hostReduceAdd h y init (ix1 o) = init + ∑ b : Fin 8, ∑ n : Fin 4096, y (ix3 b o n) := by
  unfold Ideal.hostReduceAdd
  refine congrArg (init + ·) ?_
  rw [← Fintype.sum_prod_type' (f := fun (b : Fin 8) (n : Fin 4096) => y (ix3 b o n))]
  have key : ∀ i : S8x256x4096.Idx, h.drop i = ix1 o → i = ix3 (i 0) o (i 2) := fun i hi => by
    have h1 : (i 1).val = o.val := congrArg Fin.val (congrFun hi 0)
    funext a
    match a with
    | ⟨0, _⟩ => rfl
    | ⟨1, _⟩ => exact Fin.ext h1
    | ⟨2, _⟩ => rfl
  refine Finset.sum_bij' (fun i _ => ((i 0, i 2) : Fin 8 × Fin 4096)) (fun p _ => ix3 p.1 o p.2) ?_ ?_ ?_ ?_ ?_
  · intro i _; exact Finset.mem_univ _
  · intro p _
    refine Finset.mem_filter.mpr ⟨Finset.mem_univ _, ?_⟩
    funext a
    match a with
    | ⟨0, _⟩ => rfl
  · intro i hi
    exact (key i (Finset.mem_filter.mp hi).2).symm
  · intro p _; rfl
  · intro i hi
    exact congrArg y (key i (Finset.mem_filter.mp hi).2)

/-- The channels' sums, -/
def sums (y : FVec Ideal S8x256x4096 .f32) : FVec Ideal S256 .f32 :=
  Host.reduceAdd y (constant S_ .f32 0x00000000#32) reducesTo_S8x256x4096_S256_d0_2 h_S_

/-- means, -/
def means (y : FVec Ideal S8x256x4096 .f32) : FVec Ideal S1x256x1 .f32 :=
  Host.divf (broadcastInDim S1x256x1 ![1] bcast_S256_S1x256x1_1 (sums y))
    (broadcastInDim S1x256x1 ![] bcast_S_S1x256x1 (constant S_ .f32 0x47000000#32))

/-- the values about their means, -/
def around (y : FVec Ideal S8x256x4096 .f32) : FVec Ideal S8x256x4096 .f32 :=
  subf y (broadcastInDim S8x256x4096 ![0, 1, 2] bcast_S1x256x1_S8x256x4096_0_1_2 (means y))

/-- the number of values of a channel, -/
def count : FVec Ideal S_ .f32 :=
  subf (constant S_ .f32 0x47000000#32) (sitofp .f32 (constantI S_ 32 0#32))

/-- the variances, -/
def spread (y : FVec Ideal S8x256x4096 .f32) : FVec Ideal S1x256x1 .f32 :=
  select (broadcastInDim S1x256x1 ![] bcast_S_S1x256x1 (cmpf .ogt count (constant S_ .f32 0x00000000#32)))
    (Host.divf (broadcastInDim S1x256x1 ![1] bcast_S256_S1x256x1_1 (sums (mulf (around y) (around y))))
      (broadcastInDim S1x256x1 ![] bcast_S_S1x256x1 count))
    (broadcastInDim S1x256x1 ![] bcast_S_S1x256x1 (constant S_ .f32 0x7FC00000#32))

/-- and the values normalized and scaled. -/
def steady (y : FVec Ideal S8x256x4096 .f32) (g : FVec Ideal S256 .f32) :
    FVec Ideal S8x256x4096 .f32 :=
  mulf (Host.divf (around y) (broadcastInDim S8x256x4096 ![0, 1, 2] bcast_S1x256x1_S8x256x4096_0_1_2
      (Host.sqrt (addf (spread y) (broadcastInDim S1x256x1 ![] bcast_S_S1x256x1 (constant S_ .f32 0x3727C5AC#32))))))
    (broadcastInDim S8x256x4096 ![0, 1, 2] bcast_S1x256x1_S8x256x4096_0_1_2 (broadcastInDim S1x256x1 ![1] bcast_S256_S1x256x1_1 g))

variable {y : FVec Ideal S8x256x4096 .f32} {g : FVec Ideal S256 .f32}
  {Y : Fin 256 → Fin 8 → Fin 4096 → EReal}

/-- A channel's sum is the sum over all batches and columns. -/
theorem sums_eq (hy : ∀ b o n, y (ix3 b o n) = Y o b n) (o : Fin 256) : sums y (ix1 o) = ∑ b, ∑ n, Y o b n := by
  unfold sums
  simp only [Host.reduceAdd, Ideal.hostReduceAdd_def]
  rw [sum_outer]
  refine (congrArg (· + _) Dist.zero0).trans ((zero_add _).trans ?_)
  simp only [hy]

theorem means_eq (hy : ∀ b o n, y (ix3 b o n) = Y o b n) (o : Fin 256) (a c : Fin 1) : means y (ix3 a o c) = average (Y o) := by
  unfold means
  pointwise
  rw [sums_eq hy]
  exact congrArg (Ideal.div _) Consts.points

theorem around_eq (hy : ∀ b o n, y (ix3 b o n) = Y o b n) (b : Fin 8) (o : Fin 256) (n : Fin 4096) :
    around y (ix3 b o n) = Y o b n - average (Y o) := by
  unfold around
  pointwise
  rw [means_eq hy, hy]

theorem count_eq (i : S_.Idx) : count i = ((32768 : ℝ) : EReal) := by
  show Ideal.ofBits .f32 0x47000000#32 - (((0#32 : BitVec 32).toInt : ℝ) : EReal) = _
  rw [Consts.points]
  simp

theorem spread_eq (hy : ∀ b o n, y (ix3 b o n) = Y o b n) (o : Fin 256) (a c : Fin 1) : spread y (ix3 a o c) = variance (Y o) := by
  unfold spread
  pointwise
  rw [sums_eq (y := mulf (around y) (around y)) (Y := fun o b n => (Y o b n - average (Y o)) * (Y o b n - average (Y o)))
    (fun b o n => by pointwise; rw [around_eq hy])]
  rw [count_eq, if_pos (EReal.coe_pos.mpr (by norm_num))]
  rfl

theorem steady_eq (hy : ∀ b o n, y (ix3 b o n) = Y o b n) {G : Fin 256 → ℝ} (hg : ∀ o, g (ix1 o) = (G o : EReal))
    (b : Fin 8) (o : Fin 256) (n : Fin 4096) : steady y g (ix3 b o n) = scaled (Y o) (G o) b n := by
  unfold steady
  pointwise
  rw [around_eq hy, spread_eq hy, hg, Consts.eps_eq]
  rfl

end Cert.ReferenceIdeal.Bn

end

end
-- ==== Proof.RefValue.lean ====
/-
  The reference's result in plain terms.
-/
module

public import proofs.«01_k».proof.Proof.RefNear
public import proofs.«01_k».proof.Proof.RefBn

@[expose] public section

noncomputable section

namespace Cert.ReferenceIdeal.Whole

open Idealize.ShloMosaic Idealize.ShloMosaic.TcCoe Idealize.SL.Sem
open Cert.ReferenceIdeal Cert.ReferenceIdeal.Gen Cert.ReferenceIdeal.Read Cert.Result Cert.Arrays Cert.Spec

variable {x0 : (⟨S8x4096x3, .f32⟩ : BufTy).Contents (Elt Ideal)} {x1 : (⟨S8x1024x3, .f32⟩ : BufTy).Contents (Elt Ideal)}
  {x2 : (⟨S8x136x4096, .f32⟩ : BufTy).Contents (Elt Ideal)} {x3 : (⟨S8x264x1024, .f32⟩ : BufTy).Contents (Elt Ideal)}
  {x4 : (⟨S256x384, .f32⟩ : BufTy).Contents (Elt Ideal)} {x5 x6 : (⟨S256, .f32⟩ : BufTy).Contents (Elt Ideal)}
  {x7 : (⟨S256x256, .f32⟩ : BufTy).Contents (Elt Ideal)} {x8 x9 : (⟨S256, .f32⟩ : BufTy).Contents (Elt Ideal)} {x : Inputs}

/-- The array that is mixed: interpolated features and own ones. -/
theorem joined_eq (hx : Hold x0 x1 x2 x3 x4 x5 x6 x7 x8 x9 x) (b : Fin 8) (d : Fin 384) (n : Fin 4096) :
    val_main_v50 (F := Ideal) x0 x1 x2 x3 (ix3 b d n) = (if h : d.val < 256 then
      blend (x.given b ⟨d.val, h⟩) (x.away b n) (Near.found x b n) else x.further b ⟨d.val - 256, by omega⟩ n) := by
  unfold val_main_v50
  pointwise [val_main_v49, val_main_v3]
  by_cases h : d.val < 256
  · rw [dif_pos h, dif_pos h]
    exact Near.blend_eq hx _ _ _
  · rw [dif_neg h, dif_neg h]
    exact hx.further b ⟨d.val - 256, by omega⟩ n

/-- The values of the first mixing. -/
theorem first_eq (hx : Hold x0 x1 x2 x3 x4 x5 x6 x7 x8 x9 x) (b : Fin 8) (o : Fin 256) (n : Fin 4096) :
    val_main_v52 (F := Ideal) x0 x1 x2 x3 x4 (ix3 b o n) = x.first (Near.found x) o b n := by
  unfold val_main_v52
  pointwise
  rw [val_main_v51_apply]
  have hl : ∀ d : Fin 384, lidx_main_v51 (ix3 b n o) d = ix3 b d n := fun d => by
    funext a
    match a with
    | ⟨0, _⟩ => rfl
    | ⟨1, _⟩ => rfl
    | ⟨2, _⟩ => rfl
  have hr : ∀ d : Fin 384, ridx_main_v51 (ix3 b n o) d = ix2 o d := fun d => by
    funext a
    match a with
    | ⟨0, _⟩ => rfl
    | ⟨1, _⟩ => rfl
  simp only [hl, hr, joined_eq hx, hx.mix1]
  refine (Fin.sum_univ_add (a := 256) (b := 128) _).trans ?_
  unfold Inputs.first mixed
  refine congrArg₂ (· + ·) (Finset.sum_congr rfl fun c _ => ?_) (Finset.sum_congr rfl fun c _ => ?_)
  · rw [dif_pos (show (Fin.castAdd 128 c).val < 256 from c.isLt), mul_comm]
    rfl
  · rw [dif_neg (show ¬ (Fin.natAdd 256 c).val < 256 by simp), mul_comm]
    congr 2
    exact Fin.ext (by simp)

/-- They are normalized, scaled, -/
theorem steady1_eq (hx : Hold x0 x1 x2 x3 x4 x5 x6 x7 x8 x9 x) (b : Fin 8) (o : Fin 256) (n : Fin 4096) :
    val_main_v67 (F := Ideal) x0 x1 x2 x3 x4 x5 (ix3 b o n) = scaled (x.first (Near.found x) o) (x.scale1 o) b n :=
  (congrFun (rfl : val_main_v67 (F := Ideal) x0 x1 x2 x3 x4 x5 = Bn.steady (val_main_v52 x0 x1 x2 x3 x4) x5) _).trans
    (Bn.steady_eq (first_eq hx) hx.scale1 b o n)

/-- shifted and cut off below zero. -/
theorem normed_eq (hx : Hold x0 x1 x2 x3 x4 x5 x6 x7 x8 x9 x) (b : Fin 8) (o : Fin 256) (n : Fin 4096) :
    val_main_v71 (F := Ideal) x0 x1 x2 x3 x4 x5 x6 (ix3 b o n) =
      normed (x.first (Near.found x) o) (x.scale1 o) (x.shift1 o) b n := by
  unfold val_main_v71
  pointwise [val_main_v70, val_main_v69, val_main_v68, val_main_call1_v0]
  rw [steady1_eq hx, hx.shift1]
  exact congrArg _ Dist.zero0

/-- The values of the second mixing. -/
theorem second_eq (hx : Hold x0 x1 x2 x3 x4 x5 x6 x7 x8 x9 x) (b : Fin 8) (o : Fin 256) (n : Fin 4096) :
    val_main_v73 (F := Ideal) x0 x1 x2 x3 x4 x5 x6 x7 (ix3 b o n) = x.second (Near.found x) o b n := by
  unfold val_main_v73
  pointwise
  rw [val_main_v72_apply]
  have hl : ∀ d : Fin 256, lidx_main_v72 (ix3 b n o) d = ix3 b d n := fun d => by
    funext a
    match a with
    | ⟨0, _⟩ => rfl
    | ⟨1, _⟩ => rfl
    | ⟨2, _⟩ => rfl
  have hr : ∀ d : Fin 256, ridx_main_v72 (ix3 b n o) d = ix2 o d := fun d => by
    funext a
    match a with
    | ⟨0, _⟩ => rfl
    | ⟨1, _⟩ => rfl
  simp only [hl, hr, normed_eq hx, hx.mix2]
  exact Finset.sum_congr rfl fun d _ => mul_comm _ _

/-- They are normalized and scaled. -/
theorem steady2_eq (hx : Hold x0 x1 x2 x3 x4 x5 x6 x7 x8 x9 x) (b : Fin 8) (o : Fin 256) (n : Fin 4096) :
    val_main_v88 (F := Ideal) x0 x1 x2 x3 x4 x5 x6 x7 x8 (ix3 b o n) =
      scaled (x.second (Near.found x) o) (x.scale2 o) b n :=
  (congrFun (rfl : val_main_v88 (F := Ideal) x0 x1 x2 x3 x4 x5 x6 x7 x8 = Bn.steady (val_main_v73 x0 x1 x2 x3 x4 x5 x6 x7) x8) _).trans
    (Bn.steady_eq (second_eq hx) hx.scale2 b o n)

/-- The reference's result. -/
theorem result_eq (hx : Hold x0 x1 x2 x3 x4 x5 x6 x7 x8 x9 x) (b : Fin 8) (r : Fin 264) (n : Fin 4096) :
    val_main_v93 (F := Ideal) x0 x1 x2 x3 x4 x5 x6 x7 x8 x9 (ix3 b r n) = x.result (Near.found x) b r n := by
  unfold val_main_v93
  pointwise [val_main_v92, val_main_v91, val_main_v90, val_main_v89, val_main_call3_v0, val_main_v2]
  unfold Inputs.result
  by_cases h : r.val < 8
  · rw [dif_pos h, dif_pos h]
    exact hx.own b ⟨r.val, h⟩ n
  · rw [dif_neg h, dif_neg h, steady2_eq hx, hx.shift2]
    exact congrArg _ Dist.zero0

end Cert.ReferenceIdeal.Whole

end

end
-- ==== Proof.PreRead.lean ====
/-
  The precondition read: coordinates and scales are real, and in every row the fourth largest negated distance is below the third.
-/
module

public import proofs.«01_k».proof.Proof.RefNear
public import proofs.«01_k».proof.Proof.Gen.Pre_finite_and_apart
public import Idealize.ShloMosaic.Lib.ReduceAll
public import Idealize.ShloMosaic.Lib.Pointwise

@[expose] public section

noncomputable section

namespace Cert.Given

open Idealize.ShloMosaic Idealize.ShloMosaic.TcCoe
open Cert.Pre_finite_and_apart Cert.Pre_finite_and_apart.Facts Cert.Result Cert.Arrays Cert.Spec

variable [Cert.Pre_finite_and_apart.Facts]

/-- Whether every element of an array is finite. -/
def finite {s : Shape} {axes : List (Fin s.rank)} (x : FVec Ideal s .f32) (hb : S_.BroadcastsInDim s (![] : Fin 0 → Fin s.rank))
    (hr : s.ReducesTo axes S_) : IVec S_ 1 :=
  Host.reduce IntOp.andi (cmpf .olt (Host.absf x) (broadcastInDim s ![] hb (constant S_ .f32 0x7F800000#32))) (constantI S_ 1 1#1) hr h_S_

/-- The places of the points to be filled in, -/
def target (x0 : FVec Ideal S8x4096x3 .f32) (x2 : FVec Ideal S8x136x4096 .f32) : FVec Ideal S8x4096x11 .f32 :=
  concatenate S8x4096x11 2 [⟨S8x4096x3, x0⟩, ⟨S8x4096x8, transpose S8x4096x8 [0, 2, 1]
    (extractStridedSlice S8x8x4096 ![0, 0, 0] x2 slices_S8x136x4096_S8x8x4096_0_0_0) transposes_S8x8x4096_S8x4096x8_0_2_1⟩]
    concatenates_S8x4096x3_S8x4096x8_S8x4096x11_d2

/-- those of the known points, -/
def source (x1 : FVec Ideal S8x1024x3 .f32) (x3 : FVec Ideal S8x264x1024 .f32) : FVec Ideal S8x1024x11 .f32 :=
  concatenate S8x1024x11 2 [⟨S8x1024x3, x1⟩, ⟨S8x1024x8, transpose S8x1024x8 [0, 2, 1]
    (extractStridedSlice S8x8x1024 ![0, 0, 0] x3 slices_S8x264x1024_S8x8x1024_0_0_0) transposes_S8x8x1024_S8x1024x8_0_2_1⟩]
    concatenates_S8x1024x3_S8x1024x8_S8x1024x11_d2

/-- the negated squared distances, -/
def far (t : FVec Ideal S8x4096x11 .f32) (s : FVec Ideal S8x1024x11 .f32) : FVec Ideal S8x4096x1024 .f32 :=
  Host.negf (subf
    (addf
      (broadcastInDim S8x4096x1024 ![0, 1, 2] bcast_S8x4096x1_S8x4096x1024_0_1_2 (broadcastInDim S8x4096x1 ![0, 1] bcast_S8x4096_S8x4096x1_0_1
        (Host.reduceAdd (mulf t t) (constant S_ .f32 0x00000000#32) reducesTo_S8x4096x11_S8x4096_d2 h_S_)))
      (broadcastInDim S8x4096x1024 ![0, 1, 2] bcast_S8x1x1024_S8x4096x1024_0_1_2 (broadcastInDim S8x1x1024 ![0, 2] bcast_S8x1024_S8x1x1024_0_2
        (Host.reduceAdd (mulf s s) (constant S_ .f32 0x00000000#32) reducesTo_S8x1024x11_S8x1024_d2 h_S_))))
    (mulf (broadcastInDim S8x4096x1024 ![] bcast_S_S8x4096x1024 (constant S_ .f32 0x40000000#32))
      (Host.dotGeneral dot_S8x4096x11_S8x1024x11_S8x4096x1024_2_2_1_1_0_0 none t s)))

/-- the four largest of every row, -/
def four (d : FVec Ideal S8x4096x1024 .f32) : FVec Ideal S8x4096x4 .f32 :=
  (Host.topK S8x4096x4 2 (FloatOps.cmpfTotal .gt) d sliceFits_S8x4096x1024_S8x4096x4).1

/-- and whether in every row the last of them is below the one before. -/
def apart (d : FVec Ideal S8x4096x1024 .f32) : IVec S_ 1 :=
  Host.reduce IntOp.andi (cmpf .olt
    (shapeCast S8x4096 (extractStridedSlice S8x4096x1 ![0, 0, 3] (four d) slices_S8x4096x4_S8x4096x1_0_0_3) shapeCasts_S8x4096x1_S8x4096)
    (shapeCast S8x4096 (extractStridedSlice S8x4096x1 ![0, 0, 2] (four d) slices_S8x4096x4_S8x4096x1_0_0_2) shapeCasts_S8x4096x1_S8x4096))
    (constantI S_ 1 1#1) reducesTo_S8x4096_S_d0_1 h_S_

variable {x0 : FVec Ideal S8x4096x3 .f32} {x1 : FVec Ideal S8x1024x3 .f32} {x2 : FVec Ideal S8x136x4096 .f32}
  {x3 : FVec Ideal S8x264x1024 .f32} {x4 : FVec Ideal S256x384 .f32} {x5 x6 : FVec Ideal S256 .f32}
  {x7 : FVec Ideal S256x256 .f32} {x8 x9 : FVec Ideal S256 .f32}

/-- The precondition is these questions joined by "and". -/
theorem fn_eq : fn (F := Ideal) x0 x1 x2 x3 x4 x5 x6 x7 x8 x9 =
    andi (andi (andi (andi (andi (andi (andi (constantI S_ 1 1#1)
      (finite x0 bcast_S_S8x4096x3 reducesTo_S8x4096x3_S_d0_1_2)) (finite x1 bcast_S_S8x1024x3 reducesTo_S8x1024x3_S_d0_1_2))
      (finite (extractStridedSlice S8x8x4096 ![0, 0, 0] x2 slices_S8x136x4096_S8x8x4096_0_0_0) bcast_S_S8x8x4096 reducesTo_S8x8x4096_S_d0_1_2))
      (finite (extractStridedSlice S8x8x1024 ![0, 0, 0] x3 slices_S8x264x1024_S8x8x1024_0_0_0) bcast_S_S8x8x1024 reducesTo_S8x8x1024_S_d0_1_2))
      (finite x5 bcast_S_S256 reducesTo_S256_S_d0)) (finite x8 bcast_S_S256 reducesTo_S256_S_d0))
      (apart (far (target x0 x2) (source x1 x3))) := rfl

theorem both {a b : BitVec 1} (h : IntOp.andi a b = 1#1) : a = 1#1 ∧ b = 1#1 := by revert a b; decide

theorem less_of_word {a b : EReal} (h : FloatOps.cmpf (F := Ideal) (φ := .f32) .olt a b = 1#1) : a < b := by
  have h' : BitVec.ofBool (decide (a < b)) = 1#1 := h
  by_contra hn
  rw [decide_eq_false hn] at h'
  exact absurd h' (by decide)

/-- An array all of whose elements are finite holds real numbers. -/
theorem finite_read {s : Shape} {axes : List (Fin s.rank)} {x : FVec Ideal s .f32} {hb : S_.BroadcastsInDim s (![] : Fin 0 → Fin s.rank)}
    {hr : s.ReducesTo axes S_} (h : finite x hb hr ix0 = 1#1) (i : s.Idx) : x i = ((x i : EReal).toReal : EReal) := by
  haveI : Subsingleton S_.Idx := ⟨fun a b => funext fun k => k.elim0⟩
  have h' : FloatOps.cmpf (F := Ideal) (φ := .f32) .olt (max (x i : EReal) (-(x i : EReal))) (Ideal.ofBits .f32 0x7F800000#32) = 1#1 :=
    Host.reduce_andi_all _ _ _ _ ix0 h i
  have hl := less_of_word h'
  rw [Consts.inf] at hl
  refine (EReal.coe_toReal ?_ ?_).symm
  · intro e; rw [e] at hl; simp at hl
  · intro e; rw [e] at hl; simp at hl

/-- Arrays that agree at every triple are equal. -/
theorem ext3 {α : Type} {a b c : ℕ} {f g : (⟨3, ![a, b, c]⟩ : Shape).Idx → α} (h : ∀ p q r, f (ix3 p q r) = g (ix3 p q r)) : f = g := by
  funext i
  have e : i = ix3 (i 0) (i 1) (i 2) := by
    funext k
    match k with
    | ⟨0, _⟩ => rfl
    | ⟨1, _⟩ => rfl
    | ⟨2, _⟩ => rfl
  rw [e]
  exact h _ _ _

/-- The first eight features of the points, read off their slices. -/
theorem slice_own (b : Fin 8) (d : Fin 8) (n : Fin 4096) :
    extractStridedSlice S8x8x4096 ![0, 0, 0] x2 slices_S8x136x4096_S8x8x4096_0_0_0 (ix3 b d n) = x2 (ix3 b ⟨d.val, by omega⟩ n) := by
  pointwise

theorem slice_known (b : Fin 8) (d : Fin 8) (k : Fin 1024) :
    extractStridedSlice S8x8x1024 ![0, 0, 0] x3 slices_S8x264x1024_S8x8x1024_0_0_0 (ix3 b d k) = x3 (ix3 b ⟨d.val, by omega⟩ k) := by
  pointwise

/-- The inputs ten arrays hold. -/
def inputs (x0 : FVec Ideal S8x4096x3 .f32) (x1 : FVec Ideal S8x1024x3 .f32) (x2 : FVec Ideal S8x136x4096 .f32)
    (x3 : FVec Ideal S8x264x1024 .f32) (x4 : FVec Ideal S256x384 .f32) (x5 x6 : FVec Ideal S256 .f32)
    (x7 : FVec Ideal S256x256 .f32) (x8 x9 : FVec Ideal S256 .f32) : Inputs where
  place b n d := (x0 (ix3 b n d) : EReal).toReal
  site b k d := (x1 (ix3 b k d) : EReal).toReal
  own b d n := (x2 (ix3 b ⟨d.val, by omega⟩ n) : EReal).toReal
  known b d k := (x3 (ix3 b ⟨d.val, by omega⟩ k) : EReal).toReal
  further b d n := x2 (ix3 b ⟨8 + d.val, by omega⟩ n)
  given b d k := x3 (ix3 b ⟨8 + d.val, by omega⟩ k)
  mix1 o d := x4 (ix2 o d)
  scale1 o := (x5 (ix1 o) : EReal).toReal
  shift1 o := x6 (ix1 o)
  mix2 o d := x7 (ix2 o d)
  scale2 o := (x8 (ix1 o) : EReal).toReal
  shift2 o := x9 (ix1 o)

variable {x : Inputs}

/-- The places the precondition computes are the reference's, -/
theorem target_eq (hx : Hold x0 x1 x2 x3 x4 x5 x6 x7 x8 x9 x) : target x0 x2 = Cert.ReferenceIdeal.Read.val_main_v10 (F := Ideal) x0 x2 := by
  refine ext3 fun b n d => ?_
  rw [Cert.ReferenceIdeal.Dist.target_eq hx]
  unfold target
  pointwise
  unfold Inputs.target
  by_cases h : d.val < 3
  · rw [dif_pos h, dif_pos h]
    exact hx.place _ _ _
  · rw [dif_neg h, dif_neg h]
    exact hx.own b ⟨d.val - 3, by omega⟩ n

theorem source_eq (hx : Hold x0 x1 x2 x3 x4 x5 x6 x7 x8 x9 x) : source x1 x3 = Cert.ReferenceIdeal.Read.val_main_v14 (F := Ideal) x1 x3 := by
  refine ext3 fun b n d => ?_
  rw [Cert.ReferenceIdeal.Dist.source_eq hx]
  unfold source
  pointwise
  unfold Inputs.source
  by_cases h : d.val < 3
  · rw [dif_pos h, dif_pos h]
    exact hx.site _ _ _
  · rw [dif_neg h, dif_neg h]
    exact hx.known b ⟨d.val - 3, by omega⟩ n

/-- so its negated distances are too. -/
theorem far_eq (hx : Hold x0 x1 x2 x3 x4 x5 x6 x7 x8 x9 x) (b : Fin 8) (n : Fin 4096) (k : Fin 1024) :
    far (target x0 x2) (source x1 x3) (ix3 b n k) = Cert.ReferenceIdeal.Near.row x b n k := by
  rw [target_eq hx, source_eq hx]
  exact Cert.ReferenceIdeal.Dist.negated_eq hx b n k

theorem last_eq (y : FVec Ideal S8x4096x4 .f32) (b : Fin 8) (n : Fin 4096) :
    shapeCast S8x4096 (extractStridedSlice S8x4096x1 ![0, 0, 3] y slices_S8x4096x4_S8x4096x1_0_0_3) shapeCasts_S8x4096x1_S8x4096 (ix2 b n)
      = y (ix3 b n 3) := by
  pointwise

theorem third_eq (y : FVec Ideal S8x4096x4 .f32) (b : Fin 8) (n : Fin 4096) :
    shapeCast S8x4096 (extractStridedSlice S8x4096x1 ![0, 0, 2] y slices_S8x4096x4_S8x4096x1_0_0_2) shapeCasts_S8x4096x1_S8x4096 (ix2 b n)
      = y (ix3 b n 2) := by
  pointwise

/-- The precondition's last question answered: the third and the fourth distance differ in every row. -/
theorem apart_read (hx : Hold x0 x1 x2 x3 x4 x5 x6 x7 x8 x9 x) (h : apart (far (target x0 x2) (source x1 x3)) ix0 = 1#1) :
    Cert.ReferenceIdeal.Near.Apart x := by
  haveI : Subsingleton S_.Idx := ⟨fun a b => funext fun k => k.elim0⟩
  intro b n
  have h' := less_of_word (Host.reduce_andi_all _ _ _ _ ix0 h (ix2 b n))
  rw [last_eq, third_eq] at h'
  have hv : ∀ j, four (far (target x0 x2) (source x1 x3)) (ix3 b n j) =
      Cert.ReferenceIdeal.Near.row x b n (Order.first (K := 4) (by decide) (Cert.ReferenceIdeal.Near.row x b n) j) := fun j => by
    have hr : (fun m => far (target x0 x2) (source x1 x3) (ix3 b n m)) = Cert.ReferenceIdeal.Near.row x b n := funext fun m => far_eq hx b n m
    refine (Order.values_eq (K := 4) (by decide) _ _ b n j).trans ?_
    rw [hr, far_eq hx]
  rw [hv, hv] at h'
  exact h'

/-- Under the precondition the arrays hold the inputs read off them, -/
theorem holds (h : fn (F := Ideal) x0 x1 x2 x3 x4 x5 x6 x7 x8 x9 = fun _ => 1#1) :
    Hold x0 x1 x2 x3 x4 x5 x6 x7 x8 x9 (inputs x0 x1 x2 x3 x4 x5 x6 x7 x8 x9) := by
  have h0 := congrFun h ix0
  rw [fn_eq] at h0
  obtain ⟨h0, -⟩ := both h0
  obtain ⟨h0, a8⟩ := both h0
  obtain ⟨h0, a5⟩ := both h0
  obtain ⟨h0, a3⟩ := both h0
  obtain ⟨h0, a2⟩ := both h0
  obtain ⟨h0, a1⟩ := both h0
  obtain ⟨-, a0⟩ := both h0
  have own : ∀ b (d : Fin 8) n, x2 (ix3 b ⟨d.val, by omega⟩ n) = ((x2 (ix3 b ⟨d.val, by omega⟩ n) : EReal).toReal : EReal) := fun b d n => by
    rw [← slice_own (x2 := x2) b d n]
    exact finite_read a2 _
  have known : ∀ b (d : Fin 8) k, x3 (ix3 b ⟨d.val, by omega⟩ k) = ((x3 (ix3 b ⟨d.val, by omega⟩ k) : EReal).toReal : EReal) := fun b d k => by
    rw [← slice_known (x3 := x3) b d k]
    exact finite_read a3 _
  exact ⟨fun _ _ _ => finite_read a0 _, fun _ _ _ => finite_read a1 _, own, known, fun _ _ _ => rfl, fun _ _ _ => rfl,
    fun _ _ => rfl, fun _ => finite_read a5 _, fun _ => rfl, fun _ _ => rfl, fun _ => finite_read a8 _, fun _ => rfl⟩

/-- and the nearest three points of every column are apart from the rest. -/
theorem apart_of (h : fn (F := Ideal) x0 x1 x2 x3 x4 x5 x6 x7 x8 x9 = fun _ => 1#1) :
    Cert.ReferenceIdeal.Near.Apart (inputs x0 x1 x2 x3 x4 x5 x6 x7 x8 x9) := by
  have h0 := congrFun h ix0
  rw [fn_eq] at h0
  exact apart_read (holds h) (both h0).2

end Cert.Given

end

end
-- ==== Proof.Agree.lean ====
/-
  The kernel's result and the reference's are one array.
-/
module

public import proofs.«01_k».proof.Defs
public import proofs.«01_k».proof.Proof.HostLines
public import proofs.«01_k».proof.Proof.Run
public import proofs.«01_k».proof.Proof.RefValue
public import proofs.«01_k».proof.Proof.PreRead

@[expose] public section

noncomputable section

namespace Cert.Agree

open Idealize.ShloMosaic Idealize.ShloMosaic.TcCoe Idealize.SL.Sem Cert.Result Cert.Arrays

/-- The kernel's result array over arrays that hold the inputs: at every index the layer's result. -/
theorem kernel_value (m : (ℓ : Loc Cert.KernelIdeal.nD Cert.KernelIdeal.τ Cert.KernelIdeal.sig) → Buf (Elt Ideal) ℓ)
    (g : Dev Cert.KernelIdeal.nD → PrngReg) (c : Dev Cert.KernelIdeal.nD) {x : Inputs}
    (hx : Hold
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) x)
    (ha : Cert.ReferenceIdeal.Near.Apart x) (b : Fin 8) (r : Fin 264) (n : Fin 4096) :
    Cert.KernelIdeal.Gen.W6 m g c Cert.KernelIdeal.main_v17 (ix3 b r n) = x.result (Cert.ReferenceIdeal.Near.found x) b r n :=
  Cert.KernelIdeal.HostLines.result g
    ⟨hx.place, hx.site, hx.own, hx.known, hx.further, hx.given, hx.mix1, hx.scale1, hx.shift1, hx.mix2, hx.scale2, hx.shift2⟩
    (Cert.ReferenceIdeal.Near.nearest ha) b r n

/-- Under the precondition the reference's result over the kernel's argument arrays is the kernel's. -/
theorem values_agree (m : (ℓ : Loc Cert.KernelIdeal.nD Cert.KernelIdeal.τ Cert.KernelIdeal.sig) → Buf (Elt Ideal) ℓ)
    (g : Dev Cert.KernelIdeal.nD → PrngReg) (c : Dev Cert.KernelIdeal.nD)
    (h : Cert.Pre_finite_and_apart.fn (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = fun _ => 1#1) :
    Cert.ReferenceIdeal.Read.val_main_v93 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.Gen.W6 m g c Cert.KernelIdeal.main_v17 :=
  Cert.Given.ext3 fun b r n => (Cert.ReferenceIdeal.Whole.result_eq (Cert.Given.holds h) b r n).trans
    (kernel_value m g c (Cert.Given.holds h) (Cert.Given.apart_of h) b r n).symm

/-- The same of ten arrays equal to the kernel's. -/
theorem values_agree_of (m : (ℓ : Loc Cert.KernelIdeal.nD Cert.KernelIdeal.τ Cert.KernelIdeal.sig) → Buf (Elt Ideal) ℓ)
    (g : Dev Cert.KernelIdeal.nD → PrngReg) (c : Dev Cert.KernelIdeal.nD)
    {y0 : (⟨Cert.ReferenceIdeal.S8x4096x3, .f32⟩ : BufTy).Contents (Elt Ideal)}
    {y1 : (⟨Cert.ReferenceIdeal.S8x1024x3, .f32⟩ : BufTy).Contents (Elt Ideal)}
    {y2 : (⟨Cert.ReferenceIdeal.S8x136x4096, .f32⟩ : BufTy).Contents (Elt Ideal)}
    {y3 : (⟨Cert.ReferenceIdeal.S8x264x1024, .f32⟩ : BufTy).Contents (Elt Ideal)}
    {y4 : (⟨Cert.ReferenceIdeal.S256x384, .f32⟩ : BufTy).Contents (Elt Ideal)}
    {y5 : (⟨Cert.ReferenceIdeal.S256, .f32⟩ : BufTy).Contents (Elt Ideal)}
    {y6 : (⟨Cert.ReferenceIdeal.S256, .f32⟩ : BufTy).Contents (Elt Ideal)}
    {y7 : (⟨Cert.ReferenceIdeal.S256x256, .f32⟩ : BufTy).Contents (Elt Ideal)}
    {y8 : (⟨Cert.ReferenceIdeal.S256, .f32⟩ : BufTy).Contents (Elt Ideal)}
    {y9 : (⟨Cert.ReferenceIdeal.S256, .f32⟩ : BufTy).Contents (Elt Ideal)}
    (e0 : y0 = m ((c.tc : Thread Cert.KernelIdeal.nD Cert.KernelIdeal.τ).loc Cert.KernelIdeal.main_arg0))
    (e1 : y1 = m ((c.tc : Thread Cert.KernelIdeal.nD Cert.KernelIdeal.τ).loc Cert.KernelIdeal.main_arg1))
    (e2 : y2 = m ((c.tc : Thread Cert.KernelIdeal.nD Cert.KernelIdeal.τ).loc Cert.KernelIdeal.main_arg2))
    (e3 : y3 = m ((c.tc : Thread Cert.KernelIdeal.nD Cert.KernelIdeal.τ).loc Cert.KernelIdeal.main_arg3))
    (e4 : y4 = m ((c.tc : Thread Cert.KernelIdeal.nD Cert.KernelIdeal.τ).loc Cert.KernelIdeal.main_arg4))
    (e5 : y5 = m ((c.tc : Thread Cert.KernelIdeal.nD Cert.KernelIdeal.τ).loc Cert.KernelIdeal.main_arg5))
    (e6 : y6 = m ((c.tc : Thread Cert.KernelIdeal.nD Cert.KernelIdeal.τ).loc Cert.KernelIdeal.main_arg6))
    (e7 : y7 = m ((c.tc : Thread Cert.KernelIdeal.nD Cert.KernelIdeal.τ).loc Cert.KernelIdeal.main_arg7))
    (e8 : y8 = m ((c.tc : Thread Cert.KernelIdeal.nD Cert.KernelIdeal.τ).loc Cert.KernelIdeal.main_arg8))
    (e9 : y9 = m ((c.tc : Thread Cert.KernelIdeal.nD Cert.KernelIdeal.τ).loc Cert.KernelIdeal.main_arg9))
    (h : Cert.Pre_finite_and_apart.fn (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = fun _ => 1#1) :
    Cert.ReferenceIdeal.Read.val_main_v93 (F := Ideal) y0 y1 y2 y3 y4 y5 y6 y7 y8 y9
      = Cert.KernelIdeal.Gen.W6 m g c Cert.KernelIdeal.main_v17 := by
  subst e0 e1 e2 e3 e4 e5 e6 e7 e8 e9
  exact values_agree m g c h

end Cert.Agree

end

end
-- ==== Proof.lean ====
/-
  The claim, assembled: the frames of the three programs, and the equality of the kernel's result and the reference's
  over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_apart
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The reference ends, with its arguments unchanged; it has no semaphore whose counter could differ from zero. -/
theorem reference_frame : Cert.quiescent_ReferenceIdeal (hReferenceIdeal := Cert.ReferenceIdeal.Gen.facts) := fun m g _ =>
  (θ_run _ _ _).mono (fun r h => And.intro (fun c => (h c).2) (sem_eq_zero_of_no_sems (by decide) r.2)) (Cert.ReferenceIdeal.Value.run m g)

/-- The kernel and the reference end with equal results. -/
theorem algebraic : Cert.algebraic_KernelIdeal_ReferenceIdeal_pre_finite_and_apart (hKernelIdeal := Cert.KernelIdeal.Gen.facts)
    (hReferenceIdeal := Cert.ReferenceIdeal.Gen.facts) (hPre_finite_and_apart := Cert.Pre_finite_and_apart.Gen.facts) := by
  intro m g m' g' hpre hagree
  refine ⟨fun c => Cert.KernelIdeal.Gen.W6 m g c Cert.KernelIdeal.main_v17, Cert.KernelIdeal.WholeRun.run m g, ?_⟩
  refine (θ_run _ _ _).mono (fun r h c => ⟨?_, (h c).2⟩) (Cert.ReferenceIdeal.Value.run m' g')
  refine (h c).1.trans ((Cert.ReferenceIdeal.Read.val_main_v93_eq _).trans ?_)
  obtain ⟨e0, e1, e2, e3, e4, e5, e6, e7, e8, e9⟩ := hagree c
  exact Agree.values_agree_of m g c e0 e1 e2 e3 e4 e5 e6 e7 e8 e9 (hpre c)

/-- All the claims. -/
theorem claim : Cert.Claim := ⟨Cert.Kernel.Gen.facts, Cert.KernelIdeal.Gen.facts, Cert.ReferenceIdeal.Gen.facts, Cert.Pre_finite_and_apart.Gen.facts,
  fun m g _ => Cert.Kernel.Gen.frame m g, fun m g _ => Cert.KernelIdeal.Gen.frame m g, fun m g _ => Cert.KernelIdeal.Gen.frame m g,
  fun m g _ => reference_frame m g trivial, fun m g _ => reference_frame m g trivial, trivial, algebraic⟩

end Cert.Proof

end
